-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x128 .bf16) (main_arg2 : IVec S1024x1 32) (main_arg3 : FVec F S4x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 128#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Pre_in_range_ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S_ : Shape := ⟨0, ![]⟩

class Facts : Prop where
  bcast_S_S1024x1 : S_.BroadcastsInDim S1024x1 (![] : Fin 0 → Fin S1024x1.rank)
  reducesTo_S1024x1_S_d0_1 : S1024x1.ReducesTo [0, 1] S_
  h_S_ : 0 < S_.numel

variable [Facts]

def fn {F : FTy → Type} [FloatOps F] (main_arg0 : FVec F S1024x512 .bf16) (main_arg1 : FVec F S512x128 .bf16) (main_arg2 : IVec S1024x1 32) (main_arg3 : FVec F S128x512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 128#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_c_1 : IVec S_ 1 := constantI S_ 1 1#1
  let main_v5 : IVec S_ 1 := (fun x v => Host.reduce IntOp.andi x v reducesTo_S1024x1_S_d0_1 h_S_) main_v4 main_c_1
  main_v5
-- ==== Kernel.lean ====
abbrev S1024x512 : Shape := ⟨2, ![1024, 512]⟩
abbrev S512x128 : Shape := ⟨2, ![512, 128]⟩
abbrev S1024x1 : Shape := ⟨2, ![1024, 1]⟩
abbrev S4x512x1024 : Shape := ⟨3, ![4, 512, 1024]⟩
abbrev S1024x1024 : Shape := ⟨2, ![1024, 1024]⟩
abbrev S5 : Shape := ⟨1, ![5]⟩
abbrev S_ : Shape := ⟨0, ![]⟩
abbrev S1x128 : Shape := ⟨2, ![1, 128]⟩
abbrev S1024x128 : Shape := ⟨2, ![1024, 128]⟩
abbrev S1024 : Shape := ⟨1, ![1024]⟩
abbrev S1x1024 : Shape := ⟨2, ![1, 1024]⟩
abbrev S32x1024 : Shape := ⟨2, ![32, 1024]⟩
abbrev S32x512 : Shape := ⟨2, ![32, 512]⟩
abbrev S8x512 : Shape := ⟨2, ![8, 512]⟩
abbrev S1x512x1024 : Shape := ⟨3, ![1, 512, 1024]⟩
abbrev S512x1024 : Shape := ⟨2, ![512, 1024]⟩
abbrev S8x1024 : Shape := ⟨2, ![8, 1024]⟩
abbrev S1 : Shape := ⟨1, ![1]⟩
abbrev S64x1024 : Shape := ⟨2, ![64, 1024]⟩
abbrev S128x1024 : Shape := ⟨2, ![128, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S1024x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_50 : BitVec 32 := 1#32
  let v126 : BitVec 32 := Scalar.xori v2 c1_i32_50
  let c1_i32_53 : BitVec 32 := 1#32
  let v127 : BitVec 32 := Scalar.muli v126 c1_i32_53
  let v128 : BitVec 32 := Scalar.addi c0_i32_54 v127
  v128.toNat
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_74 : BitVec 32 := 2#32
  let v145 : BitVec 32 := Scalar.xori v2 c2_i32_74
  let c1_i32_77 : BitVec 32 := 1#32
  let v146 : BitVec 32 := Scalar.muli v145 c1_i32_77
  let v147 : BitVec 32 := Scalar.addi c0_i32_78 v146
  v147.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_97 : BitVec 32 := 4#32
  let v164 : BitVec 32 := Scalar.xori v2 c4_i32_97
  let c1_i32_100 : BitVec 32 := 1#32
  let v165 : BitVec 32 := Scalar.muli v164 c1_i32_100
  let v166 : BitVec 32 := Scalar.addi c0_i32_101 v165
  v166.toNat
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_120 : BitVec 32 := 8#32
  let v183 : BitVec 32 := Scalar.xori v2 c8_i32_120
  let c1_i32_122 : BitVec 32 := 1#32
  let v184 : BitVec 32 := Scalar.muli v183 c1_i32_122
  let v185 : BitVec 32 := Scalar.addi c0_i32_123 v184
  v185.toNat
def k0_dev10 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_142 : BitVec 32 := 16#32
  let v202 : BitVec 32 := Scalar.xori v2 c16_i32_142
  let c1_i32_145 : BitVec 32 := 1#32
  let v203 : BitVec 32 := Scalar.muli v202 c1_i32_145
  let v204 : BitVec 32 := Scalar.addi c0_i32_146 v203
  v204.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x512 : Shape := ⟨2, ![1024, 512]⟩
abbrev S512x128 : Shape := ⟨2, ![512, 128]⟩
abbrev S1024x1 : Shape := ⟨2, ![1024, 1]⟩
abbrev S128x512x1024 : Shape := ⟨3, ![128, 512, 1024]⟩
abbrev S1024 : Shape := ⟨1, ![1024]⟩
abbrev S_ : Shape := ⟨0, ![]⟩
abbrev S128 : Shape := ⟨1, ![128]⟩
abbrev S1 : Shape := ⟨1, ![1]⟩
abbrev S1024x512x1024 : Shape := ⟨3, ![1024, 512, 1024]⟩
abbrev S1024x1024 : Shape := ⟨2, ![1024, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x128, .bf16⟩
  | .hbm, ⟨2, _⟩ => ⟨S1024x1, .i32⟩
  | .hbm, ⟨3, _⟩ => ⟨S128x512x1024, .bf16⟩
  | .hbm, ⟨4, _⟩ => ⟨S1024, .i32⟩
  | .hbm, ⟨5, _⟩ => ⟨S_, .i32⟩
  | .hbm, ⟨6, _⟩ => ⟨S128, .i32⟩
  | .hbm, ⟨7, _⟩ => ⟨S_, .i1⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S_, .i32⟩
  | .hbm, ⟨12, _⟩ => ⟨S128, .i32⟩
  | .hbm, ⟨13, _⟩ => ⟨S1024, .i1⟩
  | .hbm, ⟨14, _⟩ => ⟨S_, .i32⟩
  | .hbm, ⟨15, _⟩ => ⟨S_, .i1⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1, .i32⟩
  | .hbm, ⟨34, _⟩ => ⟨S128, .i32⟩
  | .hbm, ⟨35, _⟩ => ⟨S1, .i1⟩
  | .hbm, ⟨36, _⟩ => ⟨S1024, .i1⟩
  | .hbm, ⟨37, _⟩ => ⟨S_, .i32⟩
  | .hbm, ⟨38, _⟩ => ⟨S_, .i32⟩
  | .hbm, ⟨39, _⟩ => ⟨S1024x512, .f32⟩
  | .hbm, ⟨40, _⟩ => ⟨S128x512x1024, .f32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S_, .i32⟩
  | .hbm, ⟨45, _⟩ => ⟨S1024, .i32⟩
  | .hbm, ⟨46, _⟩ => ⟨S1024, .i32⟩
  | .hbm, ⟨47, _⟩ => ⟨S1024, .i32⟩
  | .hbm, ⟨48, _⟩ => ⟨S1024x1, .i32⟩
  | .hbm, ⟨49, _⟩ => ⟨S1024x512x1024, .f32⟩
  | .hbm, ⟨50, _⟩ => ⟨S1024x1024, .f32⟩
  | .hbm, ⟨51, _⟩ => ⟨S1024x1, .i1⟩
  | .hbm, ⟨52, _⟩ => ⟨S_, .f32⟩
  | .hbm, ⟨53, _⟩ => ⟨S_, .f32⟩
  | .hbm, ⟨54, _⟩ => ⟨S1024x1024, .i1⟩
  | .hbm, ⟨55, _⟩ => ⟨S1024x1024, .f32⟩
  | .hbm, ⟨56, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_c_1 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_while0c_c_7 : Ref sig .tc := ⟨.hbm, 14, rfl⟩
abbrev main_while0c_v16 : Ref sig .tc := ⟨.hbm, 15, rfl⟩
abbrev main_while0b_call0_v0 : Ref sig .tc := ⟨.hbm, 16, rfl⟩
abbrev main_while0b_v16 : Ref sig .tc := ⟨.hbm, 17, rfl⟩
abbrev main_while0b_c_7 : Ref sig .tc := ⟨.hbm, 18, rfl⟩
abbrev main_while0b_v17 : Ref sig .tc := ⟨.hbm, 19, rfl⟩
abbrev main_while0b_c_8 : Ref sig .tc := ⟨.hbm, 20, rfl⟩
abbrev main_while0b_v18 : Ref sig .tc := ⟨.hbm, 21, rfl⟩
abbrev main_while0b_v19 : Ref sig .tc := ⟨.hbm, 22, rfl⟩
abbrev main_while0b_v20 : Ref sig .tc := ⟨.hbm, 23, rfl⟩
abbrev main_while0b_v21 : Ref sig .tc := ⟨.hbm, 24, rfl⟩
abbrev main_while0b_c_9 : Ref sig .tc := ⟨.hbm, 25, rfl⟩
abbrev main_while0b_v22 : Ref sig .tc := ⟨.hbm, 26, rfl⟩
abbrev main_while0b_v23 : Ref sig .tc := ⟨.hbm, 27, rfl⟩
abbrev main_while0b_c_10 : Ref sig .tc := ⟨.hbm, 28, rfl⟩
abbrev main_while0b_v24 : Ref sig .tc := ⟨.hbm, 29, rfl⟩
abbrev main_while0b_c_11 : Ref sig .tc := ⟨.hbm, 30, rfl⟩
abbrev main_while0b_v25 : Ref sig .tc := ⟨.hbm, 31, rfl⟩
abbrev main_while0b_v26 : Ref sig .tc := ⟨.hbm, 32, rfl⟩
abbrev main_while0b_v27 : Ref sig .tc := ⟨.hbm, 33, rfl⟩
abbrev main_while0b_v28 : Ref sig .tc := ⟨.hbm, 34, rfl⟩
abbrev main_while0b_call1_v0 : Ref sig .tc := ⟨.hbm, 35, rfl⟩
abbrev main_while0b_v29 : Ref sig .tc := ⟨.hbm, 36, rfl⟩
abbrev main_while0b_c_12 : Ref sig .tc := ⟨.hbm, 37, rfl⟩
abbrev main_while0b_v30 : Ref sig .tc := ⟨.hbm, 38, rfl⟩
abbrev main_v4 : Ref sig .tc := ⟨.hbm, 39, rfl⟩
abbrev main_v5 : Ref sig .tc := ⟨.hbm, 40, rfl⟩
abbrev main_c_2 : Ref sig .tc := ⟨.hbm, 41, rfl⟩
abbrev main_v6 : Ref sig .tc := ⟨.hbm, 42, rfl⟩
abbrev main_v7 : Ref sig .tc := ⟨.hbm, 43, rfl⟩
abbrev main_c_3 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_cst : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v15 : Ref sig .tc := ⟨.hbm, 56, rfl⟩

abbrev nD : Nat := 1
abbrev τ : Topo := Topo.v7x

variable {F : FTy → Type} [FloatOps F]

abbrev main_while0_count : Scf.Loop 32 := ⟨0#32, 1024#32, 1#32⟩
-- ==== Proof.Exchange.lean ====
/-
The hypercube exchange of the expert kernel: devices and partners, semaphore cells, the contents each landing hands
over, and the schedule of rounds.

Device `c` holds a buffer of 1024 rows. Its own 32 rows of results go to rows `[0, 32)`. In step `k = 0 … 4` it copies
its rows `[0, n)`, `n = 32 · 2^k`, onto rows `[n, 2n)` of its partner `c xor 2^k`, and its partner does the same the other
way. Block `b` of 32 rows on device `c` ends holding the results of device `c xor b`.

Who waits for what, one round per cell:
* the barrier cell of `c`: one unit from each of its five partners. The unit of partner `k` hands over the rows
  `[n, 2n)` of that partner's buffer, at any contents. `c` waits for all five before its first copy;
* the send cell `k` of `c`: the bytes of its own copy of step `k`, handing back its rows `[0, n)`;
* the receive cell `k` of `c`: the bytes of its partner's copy of step `k`, handing over `c`'s rows `[n, 2n)` at the
  contents they finally have.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pointwise.Index
public import Idealize.ShloMosaic.Lib.ValueIdxCoords

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by the step -/

abbrev Duty : Type := Fin 5
abbrev UX : Type := URounds (GSem nD τ sig) Duty
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Partners -/

/-- The device whose number is `c`'s with the bits of `b` flipped. -/
def flip (c : Dev nD) (b : Fin 32) : Dev nD := c ^^^ b
/-- Every step's bit is a device number. -/
theorem pow_lt : ∀ k : Fin 5, 2 ^ k.val < 32 := by decide
/-- The bit that step `k` flips. -/
def bit (k : Fin 5) : Fin 32 := ⟨2 ^ k.val, pow_lt k⟩
/-- The partner of step `k`. -/
def peer (k : Fin 5) (c : Dev nD) : Dev nD := flip c (bit k)

/-- The partner's partner is the device itself. -/
theorem peer_peer (k : Fin 5) (c : Dev nD) : peer k (peer k c) = c := by revert k c; decide +kernel
/-- The five partners are distinct. -/
theorem peer_inj (c : Dev nD) : Function.Injective fun k : Fin 5 => peer k c := by
  revert c; unfold Function.Injective; decide +kernel
/-- Exclusive or with zero changes nothing. -/
theorem flip_zero (c : Dev nD) : flip c 0 = c := by revert c; decide +kernel
/-- Adding a step's bit to a number below it is the exclusive or. -/
theorem xor_low : ∀ (k : Fin 5) (b b' : Fin 32), b.val < 2 ^ k.val → b'.val = 2 ^ k.val + b.val → b' = bit k ^^^ b := by
  decide +kernel
/-- Seen from the partner, a block's owner is that of the block with the step's bit flipped. -/
theorem flip_flip : ∀ (k : Fin 5) (c : Dev nD) (b : Fin 32), flip (peer k c) b = flip c (bit k ^^^ b) := by decide +kernel
/-- Flipping the bits of `b < 2^k` after moving to the partner of step `k` flips the bits of `2^k + b`. -/
theorem flip_peer (k : Fin 5) (c : Dev nD) (b b' : Fin 32) (hb : b.val < 2 ^ k.val) (hb' : b'.val = 2 ^ k.val + b.val) :
    flip c b' = flip (peer k c) b := by rw [xor_low k b b' hb hb']; exact (flip_flip k c b).symm

/-- The partners as a permutation of the devices. -/
def swap (k : Fin 5) : Dev nD ≃ Dev nD := ⟨peer k, peer k, peer_peer k, peer_peer k⟩

/-- The first signal goes to the first partner. -/
theorem sig0 (c : Dev nD) : (⟨k0_dev1 c, k0_dev1_lt c⟩ : Dev nD) = peer 0 c := by revert c; decide +kernel
/-- The second signal goes to the second partner. -/
theorem sig1 (c : Dev nD) : (⟨k0_dev2 c, k0_dev2_lt c⟩ : Dev nD) = peer 1 c := by revert c; decide +kernel
/-- The third signal goes to the third partner. -/
theorem sig2 (c : Dev nD) : (⟨k0_dev3 c, k0_dev3_lt c⟩ : Dev nD) = peer 2 c := by revert c; decide +kernel
/-- The fourth signal goes to the fourth partner. -/
theorem sig3 (c : Dev nD) : (⟨k0_dev4 c, k0_dev4_lt c⟩ : Dev nD) = peer 3 c := by revert c; decide +kernel
/-- The fifth signal goes to the fifth partner. -/
theorem sig4 (c : Dev nD) : (⟨k0_dev5 c, k0_dev5_lt c⟩ : Dev nD) = peer 4 c := by revert c; decide +kernel
/-- The first copy goes to the first partner. -/
theorem to0 (c : Dev nD) : (⟨k0_dev6 c, k0_dev6_lt c⟩ : Dev nD) = peer 0 c := by revert c; decide +kernel
/-- The second copy goes to the second partner. -/
theorem to1 (c : Dev nD) : (⟨k0_dev7 c, k0_dev7_lt c⟩ : Dev nD) = peer 1 c := by revert c; decide +kernel
/-- The third copy goes to the third partner. -/
theorem to2 (c : Dev nD) : (⟨k0_dev8 c, k0_dev8_lt c⟩ : Dev nD) = peer 2 c := by revert c; decide +kernel
/-- The fourth copy goes to the fourth partner. -/
theorem to3 (c : Dev nD) : (⟨k0_dev9 c, k0_dev9_lt c⟩ : Dev nD) = peer 3 c := by revert c; decide +kernel
/-- The fifth copy goes to the fifth partner. -/
theorem to4 (c : Dev nD) : (⟨k0_dev10 c, k0_dev10_lt c⟩ : Dev nD) = peer 4 c := by revert c; decide +kernel

/-! ## Buffers, rows and cells -/

abbrev xM : Memref sig .tc .vmem S1024x512 .bf16 := Memref.whole cc0_stg0_0
abbrev eM : Memref sig .tc .vmem S1024x1 .i32 := Memref.whole cc0_stg1_0
abbrev wM : Memref sig .tc .vmem S4x512x1024 .bf16 := Memref.whole cc0_stg2_0
abbrev oM : Memref sig .tc .vmem S1024x1024 .f32 := Memref.whole cc0_stg3_0
abbrev bM : Memref sig .tc .vmem S1024x1024 .bf16 := Memref.whole cc0_scratch0

/-- `n` rows of the buffer. -/
abbrev SR (n : ℕ) : Shape := ⟨2, ![n, 1024]⟩

/-- A range of rows lies inside the scratch. -/
theorem inbRows {o n : ℕ} (h : o + n ≤ 1024) : ∀ a, (![o, 0] : Fin 2 → ℕ) a + (SR n).size a ≤ S1024x1024.size a :=
  Rect.inb₂ h (le_refl 1024)

/-- Rows `[o, o + n)` as a rectangle, and as a slice of the buffer. -/
abbrev rowsR (o n : ℕ) (h : o + n ≤ 1024) : Rect S1024x1024 := Rect.unit (s := S1024x1024) ![o, 0] (SR n).size (inbRows h)
abbrev rowsM (o n : ℕ) (h : o + n ≤ 1024) : Memref sig .tc .vmem (SR n) .bf16 := bM.slice (rowsR o n h) (fun _ => rfl)

/-- The rows moved in step `k`. -/
def cnt (k : Fin 5) : ℕ := 32 * 2 ^ k.val
/-- A step's source and landing rows fit in the scratch. -/
theorem cnt_le (k : Fin 5) : cnt k + cnt k ≤ 1024 := by revert k; decide
/-- A step's source rows fit in the scratch. -/
theorem cnt_le' (k : Fin 5) : 0 + cnt k ≤ 1024 := by revert k; decide
/-- A device's own rows fit in the scratch. -/
theorem le32 : 0 + 32 ≤ 1024 := by decide
/-- Every step moves some rows. -/
theorem cnt_pos (k : Fin 5) : 0 < cnt k := by revert k; decide

abbrev barS : Sem sig := (SemArray.scalar (sig.barrier 0 rfl) : Sems sig S_).sem
def sendS (k : Fin 5) : DmaSem sig := ⟨4 + k.val, by have := k.isLt; show 4 + k.val < 14; omega⟩
def recvS (k : Fin 5) : DmaSem sig := ⟨9 + k.val, by have := k.isLt; show 9 + k.val < 14; omega⟩

abbrev barCell (c : Dev nD) : GSem nD τ sig := ((c : Thread nD τ), .reg barS)
abbrev sendCell (c : Dev nD) (k : Fin 5) : GSem nD τ sig := ((c : Thread nD τ), .dma (sendS k))
abbrev recvCell (c : Dev nD) (k : Fin 5) : GSem nD τ sig := ((c : Thread nD τ), .dma (recvS k))

/-- What a copy of step `k` credits. -/
def NN (k : Fin 5) : ℕ := (rowsM (cnt k) (cnt k) (cnt_le k)).view.dmaCredit
/-- Every step's copy pays a positive credit. -/
theorem NN_pos (k : Fin 5) : 0 < NN k := View.dmaCredit_pos _ (Shape.numel_pos fun a => by
  revert a; exact Fin.forall_fin_two.mpr ⟨cnt_pos k, Nat.succ_pos 1023⟩)

/-- Which rows of a buffer index lie in `[a, b)`. -/
def rows (a b : ℕ) : Finset S1024x1024.Idx := Finset.univ.filter fun i => a ≤ (i 0).val ∧ (i 0).val < b

/-- An index is in a range of rows when its first coordinate is. -/
theorem mem_rows {a b : ℕ} {i : S1024x1024.Idx} : i ∈ rows a b ↔ a ≤ (i 0).val ∧ (i 0).val < b := by
  unfold rows; simp only [Finset.mem_filter, Finset.mem_univ, true_and]

/-- The indices that a view of some rows covers. -/
theorem rowsM_set (o n : ℕ) (h : o + n ≤ 1024) : (rowsM o n h).view.set = rows o (o + n) := by
  ext i
  rw [mem_rows]
  show i ∈ ((View.whole cc0_scratch0).slice (rowsR o n h)).set ↔ _
  rw [View.set_slice_whole]
  refine Iff.trans Rect.mem_set_unit ?_
  constructor
  · intro hi; exact hi 0
  · intro hi; exact Fin.forall_fin_two.mpr ⟨hi, Nat.zero_le _, by rw [show (![o, 0] : Fin 2 → ℕ) 1 = 0 from rfl, Nat.zero_add]; exact (i 1).isLt⟩

/-- All the rows are all the indices. -/
theorem rows_all : rows 0 1024 = Finset.univ := by
  ext i; rw [mem_rows]; exact ⟨fun _ => Finset.mem_univ _, fun _ => ⟨Nat.zero_le _, (i 0).isLt⟩⟩
/-- Two adjacent ranges make one. -/
theorem rows_union {a b c : ℕ} (hab : a ≤ b) (hbc : b ≤ c) : rows a c = rows a b ∪ rows b c := by
  ext i; rw [Finset.mem_union, mem_rows, mem_rows, mem_rows]; omega
/-- Two adjacent ranges share nothing. -/
theorem rows_disj {a b c : ℕ} : Disjoint (rows a b) (rows b c) := by
  rw [Finset.disjoint_left]; intro i hi hj; rw [mem_rows] at hi hj; omega

/-- Rows `[a, b)` of device `c`'s buffer at contents `f`. -/
def part (c : Dev nD) (a b : ℕ) (f : Buf (Elt F) ((c : Thread nD τ).loc cc0_scratch0)) : sProp 𝕄 :=
  ((c : Thread nD τ).loc cc0_scratch0) ↦[rows a b]{fullShare} f

omit [FloatOps F] in
instance part_storable (c : Dev nD) (a b : ℕ) (f) : BI.Storable (upEmb : UEmb _ 𝕄) (part (F := F) c a b f) := by unfold part; infer_instance

omit [FloatOps F] in
/-- All the rows of the scratch are the scratch. -/
theorem part_whole (c : Dev nD) (f : Buf (Elt F) ((c : Thread nD τ).loc cc0_scratch0)) :
    part c 0 1024 f = (((c : Thread nD τ).loc cc0_scratch0) ↦{fullShare} f : sProp 𝕄) := by unfold part; rw [rows_all]
omit [FloatOps F] in
/-- A range of rows splits in two. -/
theorem part_split (c : Dev nD) {a b d : ℕ} (hab : a ≤ b) (hbd : b ≤ d) (f : Buf (Elt F) ((c : Thread nD τ).loc cc0_scratch0)) :
    part c a d f ⊢ iprop(part c a b f ∗ part c b d f) := by
  unfold part; rw [rows_union hab hbd]; exact (pointsTo_union rows_disj).1
omit [FloatOps F] in
/-- Two adjacent ranges of rows join. -/
theorem part_join (c : Dev nD) {a b d : ℕ} (hab : a ≤ b) (hbd : b ≤ d) (f : Buf (Elt F) ((c : Thread nD τ).loc cc0_scratch0)) :
    iprop(part c a b f ∗ part c b d f) ⊢ part c a d f := by
  unfold part; rw [rows_union hab hbd]; exact (pointsTo_union rows_disj).2
omit [FloatOps F] in
/-- The same rows as a slice's elements. -/
theorem part_slice (c : Dev nD) (o n : ℕ) (h : o + n ≤ 1024) (f : Buf (Elt F) ((c : Thread nD τ).loc cc0_scratch0)) :
    part c o (o + n) f = ((rowsM o n h).view.loc (c : Thread nD τ) ↦[(rowsM o n h).view.set]{fullShare} f : sProp 𝕄) := by
  unfold part; rw [rowsM_set]

/-! ## Contents -/

/-- What the staging buffers hold: device `c`'s tokens, their experts, its four matrices. -/
def xs (c : Dev nD) : (cc0_stg0_0 : Ref sig .tc).ty.Contents (Elt F) :=
  (win0_0.blk (0 : Fin 1)).view.read (Elt F) ((s₀ m ρ).mem ((c : Thread nD τ).loc main_arg0))
def es (c : Dev nD) : (cc0_stg1_0 : Ref sig .tc).ty.Contents (Elt F) :=
  (win0_1.blk (0 : Fin 1)).view.read (Elt F) ((s₀ m ρ).mem ((c : Thread nD τ).loc main_arg2))
def ws (c : Dev nD) : (cc0_stg2_0 : Ref sig .tc).ty.Contents (Elt F) :=
  (win0_2.blk (0 : Fin 1)).view.read (Elt F) ((s₀ m ρ).mem ((c : Thread nD τ).loc main_arg3))

/-- One of the four matrices, as the kernel loads it. -/
def w1 (c : Dev nD) (l : ℕ) (h : ∀ a, (![l, 0, 0] : Fin 3 → ℕ) a + S1x512x1024.size a ≤ S4x512x1024.size a) : Vec F S1x512x1024 .bf16 :=
  wM.view.readAt (Elt F) (Rect.unit (s := S4x512x1024) ![l, 0, 0] S1x512x1024.size h).toLoadRect (ws m ρ c)

/-- The kernel's word `4`, as the printed selection computes it. -/
abbrev four : BitVec 32 := Scalar.select (Scalar.cmpi .eq 4#32 0#32) 1#32 4#32
abbrev me (c : Dev nD) : BitVec 32 := Scalar.remsi (Scalar.divsi (Dev.word c) 1#32) 32#32

/-- The ranks, and the two halves of the slots. -/
def rankV (c : Dev nD) : IVec S1024x1 32 := k0_pay4 (F := F) (k0_pay3 (es m ρ c))
def slotV (c : Dev nD) : IVec S1024x1 32 := k0_pay5 (me c) (k0_pay2 (F := F) (es m ρ c))
def modV (c : Dev nD) : IVec S1024x1 32 := k0_pay6 (k0_pay2 (F := F) (es m ρ c))
/-- The selection matrix of device `c`. -/
def selM (c : Dev nD) : FVec F S1024x1024 .bf16 := k0_pay8 (F := F) (rankV m ρ c) (slotV m ρ c) four (modV m ρ c) k0_pay7
/-- Device `c`'s own 32 rows. -/
def own (c : Dev nD) : FVec F S32x1024 .bf16 :=
  k0_pay13 (k0_pay9 (rankV m ρ c) (slotV m ρ c) four (modV m ρ c) k0_pay7 (xs m ρ c))
    (k0_pay10 (rankV m ρ c) (slotV m ρ c) four (modV m ρ c) k0_pay7 (xs m ρ c) (w1 m ρ c 0 inb_S4x512x1024_S1x512x1024_0_0_0))
    (k0_pay11 (rankV m ρ c) (slotV m ρ c) four (modV m ρ c) k0_pay7 (xs m ρ c) (w1 m ρ c 1 inb_S4x512x1024_S1x512x1024_1_0_0))
    (k0_pay12 (rankV m ρ c) (slotV m ρ c) four (modV m ρ c) k0_pay7 (xs m ρ c))
    (w1 m ρ c 2 inb_S4x512x1024_S1x512x1024_2_0_0) (w1 m ρ c 3 inb_S4x512x1024_S1x512x1024_3_0_0)

/-- Block and offset of a row. -/
def blkOf (r : Fin 1024) : Fin 32 := ⟨r.val / 32, by have := r.isLt; omega⟩
def offOf (r : Fin 1024) : Fin 32 := ⟨r.val % 32, Nat.mod_lt _ (by decide)⟩

/-- What device `c`'s buffer finally holds: in block `b` the rows of device `c xor b`. -/
def full (c : Dev nD) : Buf (Elt F) ((c : Thread nD τ).loc cc0_scratch0) :=
  fun i : S1024x1024.Idx => own m ρ (flip c (blkOf (i 0))) (ix2 (offOf (i 0)) (i 1))

/-- The kernel's result on device `c`. -/
def outAt (c : Dev nD) : (cc0_stg3_0 : Ref sig .tc).ty.Contents (Elt F) := k0_pay1 (selM m ρ c) (full m ρ c)

/-- Storing device `c`'s own rows makes rows `[0, 32)` final. -/
theorem store_own (c : Dev nD) (f : Buf (Elt F) ((c : Thread nD τ).loc cc0_scratch0)) (i : S1024x1024.Idx) (hi : i ∈ rows 0 (0 + 32)) :
    (rowsM 0 32 le32).view.write (Elt F) f (own m ρ c) Finset.univ i = full m ρ c i := by
  have hi : i ∈ (rowsM 0 32 le32).view.set := (rowsM_set 0 32 le32).symm ▸ hi
  obtain ⟨j, -, rfl⟩ := Finset.mem_map.mp hi
  refine (View.write_emb_of_mem _ _ (Finset.mem_univ j)).trans ?_
  have h0 : (((rowsM 0 32 le32).view.emb j : S1024x1024.Idx) 0).val = (j 0).val := by
    show 0 + 1 * (j 0).val = _; omega
  have h1 : (((rowsM 0 32 le32).view.emb j : S1024x1024.Idx) 1).val = (j 1).val := by
    show 0 + 1 * (j 1).val = _; omega
  have hj : (j 0).val < 32 := (j 0).isLt
  unfold full
  rw [show blkOf (((rowsM 0 32 le32).view.emb j : S1024x1024.Idx) 0) = 0 from Fin.ext (by show _ / 32 = 0; rw [h0]; omega),
    flip_zero]
  refine congrArg (own m ρ c) (funext fun a => ?_)
  revert a; exact Fin.forall_fin_two.mpr ⟨Fin.ext (by show _ = _ % 32; rw [h0]; omega), Fin.ext h1.symm⟩

/-- A copy of step `k` from the partner's final rows `[0, n)` makes rows `[n, 2n)` final. -/
theorem land_full (c : Dev nD) (k : Fin 5) (fd : Buf (Elt F) ((peer k c : Thread nD τ).loc cc0_scratch0)) (i : S1024x1024.Idx)
    (hi : i ∈ rows (cnt k) (cnt k + cnt k)) :
    (rowsM (cnt k) (cnt k) (cnt_le k)).view.write (Elt F) fd ((rowsM 0 (cnt k) (cnt_le' k)).view.read (Elt F) (full m ρ c)) Finset.univ i
      = full m ρ (peer k c) i := by
  rw [← rowsM_set _ _ (cnt_le k)] at hi
  obtain ⟨j, -, rfl⟩ := Finset.mem_map.mp hi
  refine (View.write_emb_of_mem _ _ (Finset.mem_univ j)).trans ?_
  show full m ρ c ((rowsM 0 (cnt k) (cnt_le' k)).view.emb j) = _
  have h0 : (((rowsM (cnt k) (cnt k) (cnt_le k)).view.emb j : S1024x1024.Idx) 0).val = cnt k + (j 0).val := by
    show cnt k + 1 * (j 0).val = _; omega
  have h1 : (((rowsM (cnt k) (cnt k) (cnt_le k)).view.emb j : S1024x1024.Idx) 1).val = (j 1).val := by
    show 0 + 1 * (j 1).val = _; omega
  have g0 : (((rowsM 0 (cnt k) (cnt_le' k)).view.emb j : S1024x1024.Idx) 0).val = (j 0).val := by
    show 0 + 1 * (j 0).val = _; omega
  have g1 : (((rowsM 0 (cnt k) (cnt_le' k)).view.emb j : S1024x1024.Idx) 1).val = (j 1).val := by
    show 0 + 1 * (j 1).val = _; omega
  have hj : (j 0).val < cnt k := (j 0).isLt
  have hc : cnt k = 32 * 2 ^ k.val := rfl
  unfold full
  rw [flip_peer k (peer k c) (blkOf (((rowsM 0 (cnt k) (cnt_le' k)).view.emb j : S1024x1024.Idx) 0))
      (blkOf (((rowsM (cnt k) (cnt k) (cnt_le k)).view.emb j : S1024x1024.Idx) 0))
      (by show _ / 32 < _; rw [g0]; omega) (by show _ / 32 = 2 ^ k.val + _ / 32; rw [h0, g0]; omega), peer_peer]
  refine congrArg (own m ρ _) (funext fun a => ?_)
  revert a
  exact Fin.forall_fin_two.mpr ⟨Fin.ext (by show _ % 32 = _ % 32; rw [g0, h0]; omega), Fin.ext (g1.trans h1.symm)⟩

/-! ## The schedule -/

/-- The step a transfer semaphore belongs to. -/
def stepOf (q : DmaSem sig) : Fin 5 := ⟨(q.val + 1) % 5, Nat.mod_lt _ (by decide)⟩
/-- A send semaphore's step. -/
theorem stepOf_send (k : Fin 5) : stepOf (sendS k) = k := by revert k; decide
/-- A receive semaphore's step. -/
theorem stepOf_recv (k : Fin 5) : stepOf (recvS k) = k := by revert k; decide

/-- What the unit of partner `k` hands over: that partner's landing rows of step `k`. -/
def barPay (c : Dev nD) (k : Fin 5) : sProp 𝕄 := iprop(∃ f, part (peer k c) (cnt k) (cnt k + cnt k) f)
def sendPay (c : Dev nD) (k : Fin 5) : sProp 𝕄 := part c 0 (0 + cnt k) (full m ρ c)
def recvPay (c : Dev nD) (k : Fin 5) : sProp 𝕄 := part c (cnt k) (cnt k + cnt k) (full m ρ c)

/-- One round, round 0: a barrier cell has one unit from each partner, a transfer cell its one transfer. -/
def plan : Rounds.Schedule (GSem nD τ sig) Duty 𝕄 where
  duties g r := if r = 0 ∧ g.1.2 = .tc then (match g.2 with
    | .reg _ => Finset.univ
    | .dma q => if 4 ≤ q.val then {0} else ∅) else ∅
  unitless _ := False
  amount g _ _ := match g.2 with
    | .reg _ => 1
    | .dma q => NN (stepOf q)
  payload g _ d := match g.2 with
    | .reg _ => barPay g.1.1 d
    | .dma q => if 9 ≤ q.val then recvPay m ρ g.1.1 (stepOf q) else sendPay m ρ g.1.1 (stepOf q)
  amount_pos g _ _ _ := by
    rcases g with ⟨t, s | s⟩
    · exact Nat.one_pos
    · exact NN_pos _

instance plan_payload_storable (g : GSem nD τ sig) (r : ℕ) (d : Duty) :
    BI.Storable (upEmb : UEmb _ 𝕄) ((plan (F := F) m ρ).payload g r d) := by
  rcases g with ⟨t, s | q⟩
  · show BI.Storable upEmb (barPay t.1 d)
    unfold barPay; infer_instance
  · show BI.Storable upEmb (if 9 ≤ q.val then recvPay m ρ t.1 (stepOf q) else sendPay m ρ t.1 (stepOf q))
    unfold recvPay sendPay; split <;> infer_instance

section Plan
variable (c : Dev nD) (k : Fin 5)

/-- The barrier's cell is paid by every partner. -/
theorem duties_bar : (plan (F := F) m ρ).duties (barCell c) 0 = Finset.univ := by
  dsimp only [plan]; exact if_pos ⟨rfl, rfl⟩
/-- A send cell is paid once. -/
theorem duties_send : (plan (F := F) m ρ).duties (sendCell c k) 0 = {0} := by
  dsimp only [plan]; rw [if_pos ⟨rfl, rfl⟩]; exact if_pos (show 4 ≤ 4 + k.val by omega)
/-- A receive cell is paid once. -/
theorem duties_recv : (plan (F := F) m ρ).duties (recvCell c k) 0 = {0} := by
  dsimp only [plan]; rw [if_pos ⟨rfl, rfl⟩]; exact if_pos (show 4 ≤ 9 + k.val by omega)
/-- After the first round nothing is owed. -/
theorem duties_later (g : GSem nD τ sig) : ∀ r, 1 ≤ r → (plan (F := F) m ρ).duties g r = ∅ :=
  fun r hr => if_neg fun h => by omega

/-- A partner's signal is one. -/
theorem amount_bar (d : Duty) : (plan (F := F) m ρ).amount (barCell c) 0 d = 1 := rfl
/-- A copy credits its send cell with its size. -/
theorem amount_send (d : Duty) : (plan (F := F) m ρ).amount (sendCell c k) 0 d = NN k := congrArg NN (stepOf_send k)
/-- A copy credits its receive cell with its size. -/
theorem amount_recv (d : Duty) : (plan (F := F) m ρ).amount (recvCell c k) 0 d = NN k := congrArg NN (stepOf_recv k)

/-- The barrier expects five. -/
theorem expect_bar : (plan (F := F) m ρ).expect (barCell c) 0 = 5 := by
  unfold Schedule.expect Schedule.amountOf
  rw [duties_bar, Finset.sum_congr rfl fun d _ => amount_bar m ρ c d]; rfl
/-- A send cell expects its copy's size. -/
theorem expect_send : (plan (F := F) m ρ).expect (sendCell c k) 0 = NN k := by
  unfold Schedule.expect Schedule.amountOf; rw [duties_send, Finset.sum_singleton, amount_send]
/-- A receive cell expects its copy's size. -/
theorem expect_recv : (plan (F := F) m ρ).expect (recvCell c k) 0 = NN k := by
  unfold Schedule.expect Schedule.amountOf; rw [duties_recv, Finset.sum_singleton, amount_recv]

/-- What a signal carries. -/
theorem payload_bar (d : Duty) : (plan (F := F) m ρ).payload (barCell c) 0 d = barPay c d := rfl
/-- What the credit of a send cell carries. -/
theorem payload_send (d : Duty) : (plan (F := F) m ρ).payload (sendCell c k) 0 d = sendPay m ρ c k :=
  (if_neg (show ¬ 9 ≤ 4 + k.val by have := k.isLt; omega)).trans (congrArg (sendPay m ρ c) (stepOf_send k))
/-- What the credit of a receive cell carries. -/
theorem payload_recv (d : Duty) : (plan (F := F) m ρ).payload (recvCell c k) 0 d = recvPay m ρ c k :=
  (if_pos (Nat.le_add_right 9 k.val)).trans (congrArg (recvPay m ρ c) (stepOf_recv k))

/-- All that the barrier's signals carry together. -/
theorem rest_bar : bigSep ((plan (F := F) m ρ).duties (barCell c) 0 \ ∅) (fun d => (plan (F := F) m ρ).payload (barCell c) 0 d)
    = bigSep Finset.univ (fun k => barPay (F := F) c k) := by
  rw [Finset.sdiff_empty, duties_bar]; rfl
/-- All that a send cell's credit carries. -/
theorem rest_send : bigSep ((plan (F := F) m ρ).duties (sendCell c k) 0 \ ∅) (fun d => (plan (F := F) m ρ).payload (sendCell c k) 0 d) = sendPay m ρ c k := by
  rw [Finset.sdiff_empty, duties_send, bigSep_singleton, payload_send]
/-- All that a receive cell's credit carries. -/
theorem rest_recv : bigSep ((plan (F := F) m ρ).duties (recvCell c k) 0 \ ∅) (fun d => (plan (F := F) m ρ).payload (recvCell c k) 0 d) = recvPay m ρ c k := by
  rw [Finset.sdiff_empty, duties_recv, bigSep_singleton, payload_recv]

end Plan

/-! ## What each core owes; the levels -/

/-- The credit owed to the partners' receive cells of the steps `ks`, the first step's the last summand. -/
def oweR (c : Dev nD) : List (Fin 5) → CellTallies nD τ sig Unit
  | [] => 0
  | k :: ks => oweR c ks + tallyAt (recvCell (peer k c) k) () (NN k)
/-- And a unit to the barrier cells of the partners `ks`. -/
def oweB (c : Dev nD) (O : CellTallies nD τ sig Unit) : List (Fin 5) → CellTallies nD τ sig Unit
  | [] => O
  | k :: ks => oweB c O ks + tallyAt (barCell (peer k c)) () 1

abbrev steps : List (Fin 5) := [0, 1, 2, 3, 4]
def O₀ (c : Dev nD) : CellTallies nD τ sig Unit := oweB c (oweR c steps) steps

def L (g : GSem nD τ sig) : Finset Unit := if g.1.2 = .tc then {()} else ∅
/-- Barrier cells at level 1, the receive cell of step `k` at `2 + k`, everything else at 0. -/
def lv (g : GSem nD τ sig) (_ : Unit) : ℕ := match g.2 with
  | .reg _ => 1
  | .dma q => q.val - 7

/-- Only the tensor cores have labels. -/
theorem L_of_ne (g : GSem nD τ sig) (h : g.1.2 ≠ .tc) : L g = ∅ := if_neg h
/-- A tensor core's cell has the one label. -/
theorem L_tc (c : Dev nD) (sm : SemLoc sig) : L ((c : Thread nD τ), sm) = {()} := if_pos rfl

/-- A tally at one cell is positive only there. -/
theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- Copies are owed only to the partners' receive cells. -/
theorem oweR_pos {c : Dev nD} {ks : List (Fin 5)} {g : GSem nD τ sig} {u : Unit} (h : 0 < oweR c ks g u) :
    ∃ k ∈ ks, g = recvCell (peer k c) k := by
  induction ks with
  | nil => exact absurd h (Nat.lt_irrefl 0)
  | cons k ks ih =>
    unfold oweR at h
    rw [Pi.add_apply, Finsupp.add_apply] at h
    rcases Nat.eq_zero_or_pos (oweR c ks g u) with h0 | h0
    · rw [h0, Nat.zero_add] at h; exact ⟨k, List.mem_cons_self, tally_pos h⟩
    · obtain ⟨k', hk', e⟩ := ih h0; exact ⟨k', List.mem_cons_of_mem _ hk', e⟩

/-- What is owed before a signal is a later debt or a signal to a partner. -/
theorem oweB_pos {c : Dev nD} {O : CellTallies nD τ sig Unit} {ks : List (Fin 5)} {g : GSem nD τ sig} {u : Unit} (h : 0 < oweB c O ks g u) :
    0 < O g u ∨ ∃ k ∈ ks, g = barCell (peer k c) := by
  induction ks with
  | nil => exact Or.inl h
  | cons k ks ih =>
    unfold oweB at h
    rw [Pi.add_apply, Finsupp.add_apply] at h
    rcases Nat.eq_zero_or_pos (oweB c O ks g u) with h0 | h0
    · rw [h0, Nat.zero_add] at h; exact Or.inr ⟨k, List.mem_cons_self, tally_pos h⟩
    · rcases ih h0 with h1 | ⟨k', hk', e⟩
      · exact Or.inl h1
      · exact Or.inr ⟨k', List.mem_cons_of_mem _ hk', e⟩

/-- A wait may be made while everything owed lies above its cell. -/
theorem mayWait_above (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

/-- The level of a receive cell. -/
theorem lv_recv (c : Dev nD) (k : Fin 5) : lv (recvCell c k) () = 2 + k.val := show 9 + k.val - 7 = _ by omega

/-- At a staging cell's wait, a device owes at most `O₀`. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  refine mayWait_above c _ O fun g u hg => ?_
  rcases hO with rfl | rfl
  · have hl : lv ((c : Thread nD τ), .dma q) () = 0 := show q.val - 7 = 0 by omega
    rw [hl]
    rcases oweB_pos hg with h | ⟨k, -, rfl⟩
    · obtain ⟨k, -, rfl⟩ := oweR_pos h
      exact ⟨rfl, by rw [show lv (recvCell (peer k c) k) u = 2 + k.val from lv_recv _ _]; omega⟩
    · exact ⟨rfl, Nat.one_pos⟩
  · exact absurd hg (Nat.lt_irrefl 0)

/-- At its barrier wait it owes receive cells only. -/
theorem mayWait_bar (c : Dev nD) (ks : List (Fin 5)) :
    (levAts L lv : sProp 𝕄) ⊢ MayWait (c : Thread nD τ) (.reg barS) () (oweR c ks) := by
  refine mayWait_above c _ _ fun g u hg => ?_
  obtain ⟨k, -, rfl⟩ := oweR_pos hg
  exact ⟨rfl, by rw [show lv (recvCell (peer k c) k) u = 2 + k.val from lv_recv _ _]; show 1 < _; omega⟩

/-- A device may wait for its own send while it owes later copies. -/
theorem mayWait_send (c : Dev nD) (k : Fin 5) (ks : List (Fin 5)) :
    (levAts L lv : sProp 𝕄) ⊢ MayWait (c : Thread nD τ) (.dma (sendS k)) () (oweR c ks) := by
  refine mayWait_above c _ _ fun g u hg => ?_
  obtain ⟨k', -, rfl⟩ := oweR_pos hg
  exact ⟨rfl, by rw [show lv (recvCell (peer k' c) k') u = 2 + k'.val from lv_recv _ _]; show 4 + k.val - 7 < _; have := k.isLt; omega⟩

/-- At the receive wait of step `k` it owes later steps only. -/
theorem mayWait_recv (c : Dev nD) (k : Fin 5) (ks : List (Fin 5)) (hks : ∀ k' ∈ ks, k < k') :
    (levAts L lv : sProp 𝕄) ⊢ MayWait (c : Thread nD τ) (.dma (recvS k)) () (oweR c ks) := by
  refine mayWait_above c _ _ fun g u hg => ?_
  obtain ⟨k', hk', rfl⟩ := oweR_pos hg
  exact ⟨rfl, by rw [show lv (recvCell (peer k' c) k') u = 2 + k'.val from lv_recv _ _]; show 9 + k.val - 7 < _; have := Fin.lt_def.mp (hks k' hk'); omega⟩

end Cert.MoE

end
-- ==== Proof.Body.lean ====
/-
The kernel's body: one lemma per kind of effect, generic in the step, then the run through the printed text.
-/
module

public import proofs.«01_k».proof.Proof.Exchange

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and what a device holds of them -/

/-- A device's cells: the barrier cell, the five send cells, the five receive cells. -/
abbrev Ce : Type := Unit ⊕ (Fin 5 ⊕ Fin 5)
abbrev csem : Ce → SemLoc sig
  | .inl _ => .reg barS
  | .inr (.inl k) => .dma (sendS k)
  | .inr (.inr k) => .dma (recvS k)
abbrev kcell (ck : Dev nD × Ce) : GSem nD τ sig := ((ck.1 : Thread nD τ), csem ck.2)

/-- Every cell's invariant, under the names `K`, and that every cell is at round 0 or later. -/
def records (K : Dev nD × Ce → ℕ) : sProp 𝕄 :=
  iprop((bigSep Finset.univ fun ck : Dev nD × Ce => cellInv EX (plan m ρ) (K ck) (kcell ck))
    ∗ bigSep Finset.univ fun ck : Dev nD × Ce => reached EX (kcell ck) 0)

instance records_persistent (K : Dev nD × Ce → ℕ) : BI.Persistent (records m ρ K) := by unfold records; infer_instance

/-- Each cell's invariant is among all of them. -/
theorem inv_of_all (K : Dev nD × Ce → ℕ) (ck : Dev nD × Ce) :
    (bigSep Finset.univ fun ck : Dev nD × Ce => (cellInv EX (plan m ρ) (K ck) (kcell ck) : sProp 𝕄)) ⊢ cellInv EX (plan m ρ) (K ck) (kcell ck) :=
  bigSep_elim (Finset.mem_univ ck)
omit [FloatOps F] in
/-- Each cell's first round is among those reached. -/
theorem reached_of_all (ck : Dev nD × Ce) :
    (bigSep Finset.univ fun ck : Dev nD × Ce => (reached EX (kcell ck) 0 : sProp 𝕄)) ⊢ reached EX (kcell ck) 0 :=
  bigSep_elim (Finset.mem_univ ck)
/-- The records hold each cell's invariant. -/
theorem inv_at (K : Dev nD × Ce → ℕ) (ck : Dev nD × Ce) :
    records m ρ K ⊢ cellInv EX (plan m ρ) (K ck) (kcell ck) := by
  unfold records; iintro ⟨H, -⟩; iapply (inv_of_all m ρ K ck); iexact H
/-- The records say that each cell's first round is reached. -/
theorem reached_at (K : Dev nD × Ce → ℕ) (ck : Dev nD × Ce) :
    records m ρ K ⊢ reached EX (kcell ck) 0 := by
  unfold records; iintro ⟨-, H⟩; iapply (reached_of_all (F := F) ck); iexact H

/-- The tokens device `c` pays with in step `k`: its unit to the partner's barrier cell, its own send cell, the partner's
    receive cell. -/
def payTok (c : Dev nD) (k : Fin 5) : sProp 𝕄 :=
  iprop(dutyTok EX (barCell (peer k c)) 0 k ∗ dutyTok EX (sendCell c k) 0 0 ∗ dutyTok EX (recvCell (peer k c) k) 0 0)
/-- Its positions in the step's two transfer cells, and its tokens. -/
def stepGhost (c : Dev nD) (k : Fin 5) : sProp 𝕄 :=
  iprop(atPos EX (sendCell c k) 0 ∅ 0 ∗ atPos EX (recvCell c k) 0 ∅ 0 ∗ payTok (F := F) c k)
def linear (c : Dev nD) : sProp 𝕄 :=
  iprop(atPos EX (barCell c) 0 ∅ 0 ∗ bigSep Finset.univ fun k : Fin 5 => stepGhost (F := F) c k)
def ghost (K : Dev nD × Ce → ℕ) (c : Dev nD) : sProp 𝕄 := iprop(records m ρ K ∗ linear (F := F) c)
/-- The credit tokens for what the partners will bring: five units at the barrier, each step's bytes. -/
def credits (c : Dev nD) : sProp 𝕄 :=
  iprop(cred (tallyAt (barCell c) () 5) ∗ bigSep Finset.univ fun k : Fin 5 => cred (tallyAt (recvCell c k) () (NN k)))

/-- A product over the five steps, written out. -/
theorem bigSep_five {M : Type} [URA M] (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

abbrev 𝒱₀ : Variants := Variants.none

/-! ## One signal, one step -/

section Rules
variable (K : Dev nD × Ce → ℕ)

/-- The signal of step `k` hands the landing rows of step `k` to the partner. -/
theorem wp_sig (c n : Dev nD) (k : Fin 5) (ks : List (Fin 5)) (O : CellTallies nD τ sig Unit) (hn : n = peer k c) {u : ℕ} (hu : 1 = u)
    {α : Type} {Q : α → sProp 𝕄} {cont : PUnit → Prog (TpuEff nD τ sig (Elt F) Λ₀ .tc) α} (W : Waits sig Unit)
    (f : Buf (Elt F) ((c : Thread nD τ).loc cc0_scratch0)) :
    iprop(records m ρ K ∗ owes (c : Thread nD τ) (oweB c O (k :: ks)) W ∗ dutyTok EX (barCell (peer k c)) 0 k
        ∗ part c (cnt k) (cnt k + cnt k) f)
      ⊢ iprop((owes (c : Thread nD τ) (oweB c O ks) W -∗ wp frame (wpE (defs₀ (F := F)) 𝒱₀ (c : Thread nD τ) none) Set.univ (cont ⟨⟩) Q)
          -∗ wp frame (wpE (defs₀ (F := F)) 𝒱₀ (c : Thread nD τ) none) Set.univ (.op (.semSignal (n : Thread nD τ) barS u) cont) Q) := by
  subst hn; subst hu
  iintro ⟨#HR, HO, Htok, Hp⟩ Hk
  iapply (Rounds.wp_signal 𝒱₀ EX (plan m ρ) (c : Thread nD τ) none (dst := (peer k c : Thread nD τ)) (κ := K (peer k c, .inl ()))
      (d := k) (by rw [duties_bar]; exact Finset.mem_univ _) (amount_bar m ρ (peer k c) k) () (oweB c O ks) rfl) $$ [HO Htok Hp]
  · isplitr; · iapply (inv_at m ρ K (peer k c, .inl ())); iexact HR
    isplitl [HO]; · iexact HO
    isplitl [Htok]; · iexact Htok
    isplitl [Hp]
    · rw [payload_bar]; unfold barPay; rw [peer_peer]; iexists f; iexact Hp
    · iapply (reached_at m ρ K (peer k c, .inl ())); iexact HR
  iexact Hk

/-- The wait records after step `k`. -/
abbrev waited (k : Fin 5) (W : Waits sig Unit) : Waits sig Unit :=
  insert (SemLoc.dma (recvS k), ()) (insert (SemLoc.dma (sendS k), ()) W)

/-- The copy of step `k`: device `c`'s rows `[0, n)` and the partner's rows `[n, 2n)` go. -/
theorem wp_copy_step (c n : Dev nD) (k : Fin 5) (ks : List (Fin 5)) (hn : n = peer k c)
    {hsc : (rowsM (cnt k) (cnt k) (cnt_le k)).view.ref.isScScratch = false}
    {h1 : (rowsM 0 (cnt k) (cnt_le' k)).view.WordExact} {h2 : (rowsM (cnt k) (cnt k) (cnt_le k)).view.WordExact}
    {h3 : DmaTarget.Typed .vmem (.dma (recvS k)) (.remote (Dev.tc n : Thread nD τ) (rowsM (cnt k) (cnt k) (cnt_le k)) (.dma (sendS k)) hsc)}
    {α : Type} {Q : α → sProp 𝕄} {cont : PUnit → Prog (TpuEff nD τ sig (Elt F) Λ₀ .tc) α} (W : Waits sig Unit)
    (fn : Buf (Elt F) ((peer k c : Thread nD τ).loc cc0_scratch0)) :
    iprop(records m ρ K ∗ part c 0 (0 + cnt k) (full m ρ c) ∗ part (peer k c) (cnt k) (cnt k + cnt k) fn
        ∗ owes (c : Thread nD τ) (oweR c (k :: ks)) W ∗ dutyTok EX (sendCell c k) 0 0 ∗ dutyTok EX (recvCell (peer k c) k) 0 0)
      ⊢ iprop(((cred (tallyAt (sendCell c k) () (NN k)) ∗ owes (c : Thread nD τ) (oweR c ks) W)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.enqueueDma (rowsM 0 (cnt k) (cnt_le' k)) (.remote (Dev.tc n : Thread nD τ) (rowsM (cnt k) (cnt k) (cnt_le k)) (.dma (sendS k)) hsc)
                (.dma (recvS k)) h1 h2 h3) cont) Q) := by
  subst hn
  iintro ⟨#HR, Hp, Hf, HO, Ht1, Ht2⟩ Hk
  iapply (Rounds.wp_send_pointsTo 𝒱₀ EX (plan m ρ) (c : Thread nD τ) none (κ₁ := K (c, .inr (.inl k))) (κ₂ := K (peer k c, .inr (.inr k)))
    (r₁ := 0) (r₂ := 0) (d₁ := 0) (d₂ := 0) (fs := full m ρ c) (fd := fn)
    (by rw [duties_send]; exact Finset.mem_singleton_self _) (by rw [duties_recv]; exact Finset.mem_singleton_self _)
    () () (NN k) rfl (amount_send m ρ c k 0) (amount_recv m ρ (peer k c) k 0) (oweR c ks) rfl (W := W)
    (by rw [payload_send]; unfold sendPay; rw [part_slice c 0 (cnt k) (cnt_le' k)])
    (by
      rw [payload_recv]; unfold recvPay; rw [part_slice (peer k c) (cnt k) (cnt k) (cnt_le k)]
      exact Entails.of_eq (pointsTo_congr fun i hi => land_full m ρ c k fn i (by rwa [← rowsM_set _ _ (cnt_le k)])))) $$ [Hp Hf HO Ht1 Ht2]
  · isplitr; · iapply (inv_at m ρ K (c, .inr (.inl k))); iexact HR
    isplitr; · iapply (inv_at m ρ K (peer k c, .inr (.inr k))); iexact HR
    isplitl [Hp]; · iapply (Entails.of_eq (part_slice c 0 (cnt k) (cnt_le' k) _)); iexact Hp
    isplitl [Hf]; · iapply (Entails.of_eq (part_slice (peer k c) (cnt k) (cnt k) (cnt_le k) _)); iexact Hf
    isplitl [HO]; · iexact HO
    isplitl [Ht1]; · iexact Ht1
    isplitr; · iapply (reached_at m ρ K (c, .inr (.inl k))); iexact HR
    isplitl [Ht2]; · iexact Ht2
    iapply (reached_at m ρ K (peer k c, .inr (.inr k))); iexact HR
  iexact Hk

/-- The wait for its own copy of step `k` gives the rows `[0, n)` back, and closes the send cell. -/
theorem wp_wait_send (c : Dev nD) (k : Fin 5) (ks : List (Fin 5))
    {h1 : (rowsM (cnt k) (cnt k) (cnt_le k)).view.WordExact} {h2 : (rowsM 0 (cnt k) (cnt_le' k)).view.WordExact}
    {α : Type} {Q : α → sProp 𝕄} {cont : PUnit → Prog (TpuEff nD τ sig (Elt F) Λ₀ .tc) α} (W : Waits sig Unit) :
    iprop(records m ρ K ∗ levAts L lv ∗ cred (tallyAt (sendCell c k) () (NN k)) ∗ owes (c : Thread nD τ) (oweR c ks) W
        ∗ atPos EX (sendCell c k) 0 ∅ 0)
      ⊢ iprop(((owes (c : Thread nD τ) (oweR c ks) (insert (SemLoc.dma (sendS k), ()) W) ∗ part c 0 (0 + cnt k) (full m ρ c) ∗ semVal (sendCell c k) 0)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (sendS k) (rowsM (cnt k) (cnt k) (cnt_le k)) (rowsM 0 (cnt k) (cnt_le' k)) h1 h2) cont) Q) := by
  iintro ⟨#HR, #Hlev, Hc, HO, Hat⟩ Hk
  iapply (Rounds.wp_wait_rest_token 𝒱₀ EX (plan m ρ) (c : Thread nD τ) none (κ := K (c, .inr (.inl k)))
      (wpE_waitDma2_eq 𝒱₀ (c : Thread nD τ) none Set.univ) (Set.mem_univ _) () (O := oweR c ks) (W := W) (R := 0) (m := 0) (T := ∅)
      (by rw [Nat.zero_add, expect_send]; rfl)) $$ [Hc HO Hat]
  · isplitr; · iapply (inv_at m ρ K (c, .inr (.inl k))); iexact HR
    isplitl [Hc]; · iexact Hc
    isplitl [HO]; · iexact HO
    isplitr; · iapply (mayWait_send c k ks); iexact Hlev
    iexact Hat
  iintro ⟨HO, Hat, -, Hpay⟩
  ihave Hp := (Entails.of_eq (rest_send m ρ c k)) $$ Hpay
  imod (Rounds.cell_close EX (plan m ρ) (Set.mem_univ (K (c, .inr (.inl k)))) (fun h => h) (R := 0 + 1) (duties_later m ρ (sendCell c k))) $$ [Hat] with Hz
  · isplitr; · iapply (inv_at m ρ K (c, .inr (.inl k))); iexact HR
    iexact Hat
  iapply Hk
  isplitl [HO]; · iexact HO
  isplitl [Hp]; · unfold sendPay; iexact Hp
  iexact Hz

/-- The wait for the partner's copy of step `k` gives the rows `[n, 2n)` at their final contents, and closes the receive
    cell. -/
theorem wp_wait_recv (c : Dev nD) (k : Fin 5) (ks : List (Fin 5)) (hks : ∀ k' ∈ ks, k < k')
    {h1 : (rowsM 0 (cnt k) (cnt_le' k)).view.WordExact} {h2 : (rowsM (cnt k) (cnt k) (cnt_le k)).view.WordExact}
    {α : Type} {Q : α → sProp 𝕄} {cont : PUnit → Prog (TpuEff nD τ sig (Elt F) Λ₀ .tc) α} (W : Waits sig Unit) :
    iprop(records m ρ K ∗ levAts L lv ∗ cred (tallyAt (recvCell c k) () (NN k)) ∗ owes (c : Thread nD τ) (oweR c ks) W
        ∗ atPos EX (recvCell c k) 0 ∅ 0 ∗ part c 0 (0 + cnt k) (full m ρ c))
      ⊢ iprop(((owes (c : Thread nD τ) (oweR c ks) (insert (SemLoc.dma (recvS k), ()) W) ∗ part c 0 (cnt k + cnt k) (full m ρ c) ∗ semVal (recvCell c k) 0)
            -∗ wp frame (wpE (defs₀ (F := F)) 𝒱₀ (c : Thread nD τ) none) Set.univ (cont ⟨⟩) Q)
          -∗ wp frame (wpE (defs₀ (F := F)) 𝒱₀ (c : Thread nD τ) none) Set.univ
              (.op (.waitDma2 (recvS k) (rowsM 0 (cnt k) (cnt_le' k)) (rowsM (cnt k) (cnt k) (cnt_le k)) h1 h2) cont) Q) := by
  iintro ⟨#HR, #Hlev, Hc, HO, Hat, Hlow⟩ Hk
  iapply (Rounds.wp_wait_rest_token 𝒱₀ EX (plan m ρ) (c : Thread nD τ) none (κ := K (c, .inr (.inr k)))
      (wpE_waitDma2_eq 𝒱₀ (c : Thread nD τ) none Set.univ) (Set.mem_univ _) () (O := oweR c ks) (W := W) (R := 0) (m := 0) (T := ∅)
      (by rw [Nat.zero_add, expect_recv]; rfl)) $$ [Hc HO Hat]
  · isplitr; · iapply (inv_at m ρ K (c, .inr (.inr k))); iexact HR
    isplitl [Hc]; · iexact Hc
    isplitl [HO]; · iexact HO
    isplitr; · iapply (mayWait_recv c k ks hks); iexact Hlev
    iexact Hat
  iintro ⟨HO, Hat, -, Hpay⟩
  ihave Hp := (Entails.of_eq (rest_recv m ρ c k)) $$ Hpay
  imod (Rounds.cell_close EX (plan m ρ) (Set.mem_univ (K (c, .inr (.inr k)))) (fun h => h) (R := 0 + 1) (duties_later m ρ (recvCell c k))) $$ [Hat] with Hz
  · isplitr; · iapply (inv_at m ρ K (c, .inr (.inr k))); iexact HR
    iexact Hat
  iapply Hk
  isplitl [HO]; · iexact HO
  isplitl [Hp Hlow]
  · unfold recvPay
    iapply (part_join c (Nat.zero_le (cnt k)) (Nat.le_add_left (cnt k) (cnt k)) (full m ρ c))
    rw [Nat.zero_add]
    isplitl [Hlow] <;> iassumption
  iexact Hz

end Rules

end Cert.MoE

end
-- ==== Proof.BodyRun.lean ====
/-
The kernel's body run through from the launch's ghost state to its end, and the pipeline library's body obligation.
-/
module

public import proofs.«01_k».proof.Proof.Body

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- The grid has one point. -/
theorem cfg0_N : cfg0.N = 1 := by decide
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- The exchange buffer, whole. -/
abbrev bufPts (c : Dev nD) (f : Buf (Elt F) ((c : Thread nD τ).loc cc0_scratch0)) : sProp 𝕄 := ((c : Thread nD τ).loc cc0_scratch0) ↦{fullShare} f

/-- What device `c`'s body starts from. -/
def start (c : Dev nD) : sProp 𝕄 := iprop((∃ K, ghost m ρ K c) ∗ credits (F := F) c ∗ levAts L lv)
def Φ₀ (c : Dev nD) : sProp 𝕄 := iprop(start m ρ c ∗ ∃ f, bufPts c f)
/-- What it ends with: its buffer, and every cell's counter at zero. -/
def Φ₁ (c : Dev nD) : sProp 𝕄 :=
  iprop(bufPts c (full m ρ c) ∗ (bigSep Finset.univ fun k : Fin 5 => iprop(semVal (sendCell c k) 0 ∗ semVal (recvCell c k) 0)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => es m ρ c
    | ⟨2, _⟩ => ws m ρ c
    | ⟨3, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- To own a whole buffer that reads `X` is to hold it with contents `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reads and writes of whole buffers -/

/-- The offset of a whole read. -/
theorem z2 : (![0, 0] : Fin 2 → Nat) = fun _ => 0 := funext fun a => by fin_cases a <;> rfl

abbrev rX : Rect S1024x512 := Rect.unit (s := S1024x512) ![0, 0] S1024x512.size inb_S1024x512_S1024x512_0_0
abbrev rE : Rect S1024x1 := Rect.unit (s := S1024x1) ![0, 0] S1024x1.size inb_S1024x1_S1024x1_0_0
abbrev rO : Rect S1024x1024 := Rect.unit (s := S1024x1024) ![0, 0] S1024x1024.size inb_S1024x1024_S1024x1024_0_0

/-- Reading all of the tokens gives their buffer's contents. -/
theorem read_x (f : (cc0_stg0_0 : Ref sig .tc).ty.Contents (Elt F)) : xM.view.readAt (Elt F) rX.toLoadRect f = f :=
  Memref.readAt_unit_zero (Elt F) cc0_stg0_0 z2 _ f
/-- Reading all of the routing indices gives their buffer's contents. -/
theorem read_e (f : (cc0_stg1_0 : Ref sig .tc).ty.Contents (Elt F)) : eM.view.readAt (Elt F) rE.toLoadRect f = f :=
  Memref.readAt_unit_zero (Elt F) cc0_stg1_0 z2 _ f
/-- Reading all of the scratch gives its contents. -/
theorem read_b (f : (cc0_scratch0 : Ref sig .tc).ty.Contents (Elt F)) : bM.view.readAt (Elt F) rO.toLoadRect f = f :=
  Memref.readAt_unit_zero (Elt F) cc0_scratch0 z2 _ f
/-- Writing all of the result replaces its buffer's contents. -/
theorem write_o (f w : (cc0_stg3_0 : Ref sig .tc).ty.Contents (Elt F)) :
    (oM.access rO : View sig .tc _ _ _).write (Elt F) f w Finset.univ = w :=
  Memref.write_access_unit_zero_univ (Elt F) cc0_stg3_0 z2 _ f w

/-- The buffer cut at the rows where the steps' landing rows begin. -/
theorem part_cut (c : Dev nD) (f : Buf (Elt F) ((c : Thread nD τ).loc cc0_scratch0)) :
    bufPts c f ⊢ iprop(part c 0 (0 + 32) f ∗ part c (cnt 0) (cnt 0 + cnt 0) f ∗ part c (cnt 1) (cnt 1 + cnt 1) f ∗ part c (cnt 2) (cnt 2 + cnt 2) f
      ∗ part c (cnt 3) (cnt 3 + cnt 3) f ∗ part c (cnt 4) (cnt 4 + cnt 4) f : sProp 𝕄) := by
  iintro H
  ihave H := (Entails.of_eq (part_whole c f).symm) $$ H
  ihave H := (part_split c (b := 512) (by decide) (by decide) f) $$ H
  icases H with ⟨H, H4⟩
  ihave H := (part_split c (b := 256) (by decide) (by decide) f) $$ H
  icases H with ⟨H, H3⟩
  ihave H := (part_split c (b := 128) (by decide) (by decide) f) $$ H
  icases H with ⟨H, H2⟩
  ihave H := (part_split c (b := 64) (by decide) (by decide) f) $$ H
  icases H with ⟨H, H1⟩
  ihave H := (part_split c (b := 32) (by decide) (by decide) f) $$ H
  icases H with ⟨H, H0⟩
  isplitl [H]; · iexact H
  isplitl [H0]; · iexact H0
  isplitl [H1]; · iexact H1
  isplitl [H2]; · iexact H2
  isplitl [H3]; · iexact H3
  iexact H4

abbrev rL : Rect S1024x1024 := Rect.unit (s := S1024x1024) ![0, 0] S32x1024.size inb_S1024x1024_S32x1024_0_0

/-- A load of rows `[0, 32)` (whose value the kernel does not use). -/
theorem wp_load_low (c : Dev nD) (f : Buf (Elt F) ((c : Thread nD τ).loc cc0_scratch0)) {hl : bM.view.LoadsAt rL.toLoadRect}
    {α : Type} {Q : α → sProp 𝕄} {cont : (rL.toLoadRect.shape.Idx → Elt F .bf16) → Prog (TpuEff nD τ sig (Elt F) Λ₀ .tc) α} :
    part c 0 (0 + 32) f ⊢ iprop((part c 0 (0 + 32) f -∗ wp frame (wpE (defs₀ (F := F)) 𝒱₀ (c : Thread nD τ) none) Set.univ (cont (bM.view.readAt (Elt F) rL.toLoadRect f)) Q)
      -∗ wp frame (wpE (defs₀ (F := F)) 𝒱₀ (c : Thread nD τ) none) Set.univ (.op (.load bM rL.toLoadRect hl) cont) Q) := by
  rw [part_slice c 0 32 le32]
  exact wp_load_rect 𝒱₀ (c : Thread nD τ) none Set.univ (m := bM) (r := rL) (Finset.Subset.refl _)

/-- The store of the device's own results makes rows `[0, 32)` final. -/
theorem wp_store_low (c : Dev nD) (f : Buf (Elt F) ((c : Thread nD τ).loc cc0_scratch0)) {hx : (bM.access rL).Stores Finset.univ} {hm}
    {α : Type} {Q : α → sProp 𝕄} {cont : PUnit → Prog (TpuEff nD τ sig (Elt F) Λ₀ .tc) α} :
    part c 0 (0 + 32) f ⊢ iprop((part c 0 (0 + 32) (full m ρ c) -∗ wp frame (wpE (defs₀ (F := F)) 𝒱₀ (c : Thread nD τ) none) Set.univ (cont ⟨⟩) Q)
      -∗ wp frame (wpE (defs₀ (F := F)) 𝒱₀ (c : Thread nD τ) none) Set.univ (.op (.store bM rL (own m ρ c) Finset.univ hx hm) cont) Q) := by
  iintro Hp Hk
  ihave Hp := (Entails.of_eq (part_slice c 0 32 le32 f)) $$ Hp
  iapply (wp_store 𝒱₀ (c : Thread nD τ) none Set.univ (m := bM) (r := rL) (Mk := Finset.univ) (f := f)
    (S := (rowsM 0 32 le32).view.set) (by rw [View.setOn_univ])) $$ Hp
  iintro Hp
  iapply Hk
  iapply (Entails.of_eq (part_slice c 0 32 le32 (full m ρ c)).symm)
  iapply (Entails.of_eq (pointsTo_congr fun i hi => store_own m ρ c f i (by rwa [← rowsM_set 0 32 le32])))
  iexact Hp

/-! ## The body -/

section Body
variable (K : Dev nD × Ce → ℕ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits (F := F) c ∗ levAts L lv ∗ ∃ f, bufPts c f)
    ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m ρ c ∗ (dats m ρ 0 c).owesAt () t₀.succ ∗ stg c cc0_stg0_0 (xs m ρ c) ∗ stg c cc0_stg1_0 (es m ρ c) ∗ stg c cc0_stg2_0 (ws m ρ c)
    ∗ stg c cc0_stg3_0 (outAt m ρ c))

set_option maxHeartbeats 4000000 in
set_option maxRecDepth 8000 in
/-- The body, run one effect after the other. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost linear credits
  rw [bigSep_five, bigSep_five]
  unfold stepGhost payTok
  iintro ⟨⟨⟨⟨#HR, HatB, ⟨HaS0, HaV0, HtB0, HtS0, HtV0⟩, ⟨HaS1, HaV1, HtB1, HtS1, HtV1⟩, ⟨HaS2, HaV2, HtB2, HtS2, HtV2⟩, ⟨HaS3, HaV3, HtB3, HtS3, HtV3⟩,
      ⟨HaS4, HaV4, HtB4, HtS4, HtV4⟩⟩, ⟨HcB, HcV0, HcV1, HcV2, HcV3, HcV4⟩, #Hlev, ⟨%f0, Hbuf⟩⟩,
    Ho, ⟨%d0, %g0, %hg0, Hx⟩, ⟨%d1, %g1, %hg1, He⟩, ⟨%d2, %g2, %hg2, Hw⟩, ⟨%d3, %g3, %hg3, Hout⟩⟩, Hk⟩
  have hx : g0 = xs m ρ c := by rw [hg0]; unfold Dat.before; rw [if_pos (fetch0_0 t₀)]; rfl
  have he : g1 = es m ρ c := by rw [hg1]; unfold Dat.before; rw [if_pos (fetch0_1 t₀)]; rfl
  have hw : g2 = ws m ρ c := by rw [hg2]; unfold Dat.before; rw [if_pos (fetch0_2 t₀)]; rfl
  subst hx; subst he; subst hw
  unfold Dat.owesAt Pipeline.owesWithin
  icases Ho with ⟨%W, %hW, HO⟩
  rw [show (dats m ρ 0 c).owed t₀.castSucc = O₀ c from rfl]
  unfold O₀
  ihave Hb := (part_cut c f0) $$ Hbuf
  icases Hb with ⟨Hlow, Hb0, Hb1, Hb2, Hb3, Hb4⟩
  iapply (wp_sig m ρ K c _ 0 [1, 2, 3, 4] (oweR c steps) (sig0 c) (by decide) W f0) $$ [HO HtB0 Hb0]
  · isplitr; · iexact HR
    isplitl [HO]; · iexact HO
    isplitl [HtB0] <;> iassumption
  iintro HO
  iapply (wp_sig m ρ K c _ 1 [2, 3, 4] (oweR c steps) (sig1 c) (by decide) W f0) $$ [HO HtB1 Hb1]
  · isplitr; · iexact HR
    isplitl [HO]; · iexact HO
    isplitl [HtB1] <;> iassumption
  iintro HO
  iapply (wp_sig m ρ K c _ 2 [3, 4] (oweR c steps) (sig2 c) (by decide) W f0) $$ [HO HtB2 Hb2]
  · isplitr; · iexact HR
    isplitl [HO]; · iexact HO
    isplitl [HtB2] <;> iassumption
  iintro HO
  iapply (wp_sig m ρ K c _ 3 [4] (oweR c steps) (sig3 c) (by decide) W f0) $$ [HO HtB3 Hb3]
  · isplitr; · iexact HR
    isplitl [HO]; · iexact HO
    isplitl [HtB3] <;> iassumption
  iintro HO
  iapply (wp_sig m ρ K c _ 4 [] (oweR c steps) (sig4 c) (by decide) W f0) $$ [HO HtB4 Hb4]
  · isplitr; · iexact HR
    isplitl [HO]; · iexact HO
    isplitl [HtB4] <;> iassumption
  iintro HO
  rw [show oweB c (oweR c steps) [] = oweR c steps from rfl]
  -- the wait for the five partners, which brings their landing rows
  iapply (Rounds.wp_wait_rest_token 𝒱₀ EX (plan m ρ) (c : Thread nD τ) none (κ := K (c, .inl ()))
      (wpE_semWait_eq 𝒱₀ (c : Thread nD τ) none Set.univ) (Set.mem_univ _) () (O := oweR c steps) (W := W) (R := 0) (m := 0) (T := ∅)
      (by rw [expect_bar]; decide)) $$ [HcB HO HatB]
  · isplitr; · iapply (inv_at m ρ K (c, .inl ())); iexact HR
    isplitl [HcB]; · iexact HcB
    isplitl [HO]; · iexact HO
    isplitr; · iapply (mayWait_bar c steps); iexact Hlev
    iexact HatB
  iintro ⟨HO, HatB, -, Hpay⟩
  ihave Hp := (Entails.of_eq ((rest_bar m ρ c).trans (bigSep_five _))) $$ Hpay
  unfold barPay
  icases Hp with ⟨⟨%p0, Hb0⟩, ⟨%p1, Hb1⟩, ⟨%p2, Hb2⟩, ⟨%p3, Hb3⟩, ⟨%p4, Hb4⟩⟩
  imod (Rounds.cell_close EX (plan m ρ) (Set.mem_univ (K (c, .inl ()))) (fun h => h) (R := 0 + 1) (duties_later m ρ (barCell c))) $$ [HatB] with HzB
  · isplitr; · iapply (inv_at m ρ K (c, .inl ())); iexact HR
    iexact HatB
  -- the loads
  iapply (wp_load 𝒱₀ (c : Thread nD τ) none Set.univ (m := eM) (Finset.subset_univ _)) $$ He; iintro He
  rw [read_e]
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  iapply (wp_load 𝒱₀ (c : Thread nD τ) none Set.univ (m := wM) (Finset.subset_univ _)) $$ Hw; iintro Hw
  -- its own rows
  iapply (wp_load_low c f0) $$ Hlow; iintro Hlow
  iapply (wp_store_low m ρ c f0) $$ Hlow; iintro Hlow
  -- step 0
  iapply (wp_copy_step m ρ K c _ 0 [1, 2, 3, 4] (to0 c) (insert (SemLoc.reg barS, ()) W) p0) $$ [Hlow Hb0 HO HtS0 HtV0]
  · isplitr; · iexact HR
    isplitl [Hlow]; · iexact Hlow
    isplitl [Hb0]; · iexact Hb0
    isplitl [HO]; · iexact HO
    isplitl [HtS0] <;> iassumption
  iintro ⟨HcS, HO⟩
  iapply (wp_wait_send m ρ K c 0 [1, 2, 3, 4] (insert (SemLoc.reg barS, ()) W)) $$ [HcS HO HaS0]
  · isplitr; · iexact HR
    isplitr; · iexact Hlev
    isplitl [HcS]; · iexact HcS
    isplitl [HO] <;> iassumption
  iintro ⟨HO, Hlow, HzS0⟩
  iapply (wp_wait_recv m ρ K c 0 [1, 2, 3, 4] (by decide) (insert (SemLoc.dma (sendS 0), ()) (insert (SemLoc.reg barS, ()) W))) $$ [HcV0 HO HaV0 Hlow]
  · isplitr; · iexact HR
    isplitr; · iexact Hlev
    isplitl [HcV0]; · iexact HcV0
    isplitl [HO]; · iexact HO
    isplitl [HaV0] <;> iassumption
  iintro ⟨HO, Hlow, HzV0⟩
  -- step 1
  iapply (wp_copy_step m ρ K c _ 1 [2, 3, 4] (to1 c) (waited 0 (insert (SemLoc.reg barS, ()) W)) p1) $$ [Hlow Hb1 HO HtS1 HtV1]
  · isplitr; · iexact HR
    isplitl [Hlow]; · iexact Hlow
    isplitl [Hb1]; · iexact Hb1
    isplitl [HO]; · iexact HO
    isplitl [HtS1] <;> iassumption
  iintro ⟨HcS, HO⟩
  iapply (wp_wait_send m ρ K c 1 [2, 3, 4] (waited 0 (insert (SemLoc.reg barS, ()) W))) $$ [HcS HO HaS1]
  · isplitr; · iexact HR
    isplitr; · iexact Hlev
    isplitl [HcS]; · iexact HcS
    isplitl [HO] <;> iassumption
  iintro ⟨HO, Hlow, HzS1⟩
  iapply (wp_wait_recv m ρ K c 1 [2, 3, 4] (by decide) (insert (SemLoc.dma (sendS 1), ()) (waited 0 (insert (SemLoc.reg barS, ()) W)))) $$ [HcV1 HO HaV1 Hlow]
  · isplitr; · iexact HR
    isplitr; · iexact Hlev
    isplitl [HcV1]; · iexact HcV1
    isplitl [HO]; · iexact HO
    isplitl [HaV1] <;> iassumption
  iintro ⟨HO, Hlow, HzV1⟩
  -- step 2
  iapply (wp_copy_step m ρ K c _ 2 [3, 4] (to2 c) (waited 1 (waited 0 (insert (SemLoc.reg barS, ()) W))) p2) $$ [Hlow Hb2 HO HtS2 HtV2]
  · isplitr; · iexact HR
    isplitl [Hlow]; · iexact Hlow
    isplitl [Hb2]; · iexact Hb2
    isplitl [HO]; · iexact HO
    isplitl [HtS2] <;> iassumption
  iintro ⟨HcS, HO⟩
  iapply (wp_wait_send m ρ K c 2 [3, 4] (waited 1 (waited 0 (insert (SemLoc.reg barS, ()) W)))) $$ [HcS HO HaS2]
  · isplitr; · iexact HR
    isplitr; · iexact Hlev
    isplitl [HcS]; · iexact HcS
    isplitl [HO] <;> iassumption
  iintro ⟨HO, Hlow, HzS2⟩
  iapply (wp_wait_recv m ρ K c 2 [3, 4] (by decide) (insert (SemLoc.dma (sendS 2), ()) (waited 1 (waited 0 (insert (SemLoc.reg barS, ()) W))))) $$ [HcV2 HO HaV2 Hlow]
  · isplitr; · iexact HR
    isplitr; · iexact Hlev
    isplitl [HcV2]; · iexact HcV2
    isplitl [HO]; · iexact HO
    isplitl [HaV2] <;> iassumption
  iintro ⟨HO, Hlow, HzV2⟩
  -- step 3
  iapply (wp_copy_step m ρ K c _ 3 [4] (to3 c) (waited 2 (waited 1 (waited 0 (insert (SemLoc.reg barS, ()) W)))) p3) $$ [Hlow Hb3 HO HtS3 HtV3]
  · isplitr; · iexact HR
    isplitl [Hlow]; · iexact Hlow
    isplitl [Hb3]; · iexact Hb3
    isplitl [HO]; · iexact HO
    isplitl [HtS3] <;> iassumption
  iintro ⟨HcS, HO⟩
  iapply (wp_wait_send m ρ K c 3 [4] (waited 2 (waited 1 (waited 0 (insert (SemLoc.reg barS, ()) W))))) $$ [HcS HO HaS3]
  · isplitr; · iexact HR
    isplitr; · iexact Hlev
    isplitl [HcS]; · iexact HcS
    isplitl [HO] <;> iassumption
  iintro ⟨HO, Hlow, HzS3⟩
  iapply (wp_wait_recv m ρ K c 3 [4] (by decide) (insert (SemLoc.dma (sendS 3), ()) (waited 2 (waited 1 (waited 0 (insert (SemLoc.reg barS, ()) W)))))) $$ [HcV3 HO HaV3 Hlow]
  · isplitr; · iexact HR
    isplitr; · iexact Hlev
    isplitl [HcV3]; · iexact HcV3
    isplitl [HO]; · iexact HO
    isplitl [HaV3] <;> iassumption
  iintro ⟨HO, Hlow, HzV3⟩
  -- step 4
  iapply (wp_copy_step m ρ K c _ 4 [] (to4 c) (waited 3 (waited 2 (waited 1 (waited 0 (insert (SemLoc.reg barS, ()) W))))) p4) $$ [Hlow Hb4 HO HtS4 HtV4]
  · isplitr; · iexact HR
    isplitl [Hlow]; · iexact Hlow
    isplitl [Hb4]; · iexact Hb4
    isplitl [HO]; · iexact HO
    isplitl [HtS4] <;> iassumption
  iintro ⟨HcS, HO⟩
  iapply (wp_wait_send m ρ K c 4 [] (waited 3 (waited 2 (waited 1 (waited 0 (insert (SemLoc.reg barS, ()) W)))))) $$ [HcS HO HaS4]
  · isplitr; · iexact HR
    isplitr; · iexact Hlev
    isplitl [HcS]; · iexact HcS
    isplitl [HO] <;> iassumption
  iintro ⟨HO, Hlow, HzS4⟩
  iapply (wp_wait_recv m ρ K c 4 [] (by decide) (insert (SemLoc.dma (sendS 4), ()) (waited 3 (waited 2 (waited 1 (waited 0 (insert (SemLoc.reg barS, ()) W))))))) $$ [HcV4 HO HaV4 Hlow]
  · isplitr; · iexact HR
    isplitr; · iexact Hlev
    isplitl [HcV4]; · iexact HcV4
    isplitl [HO]; · iexact HO
    isplitl [HaV4] <;> iassumption
  iintro ⟨HO, Hlow, HzV4⟩
  ihave Hbuf := (Entails.of_eq ((congrArg (fun r => part c 0 r (full m ρ c)) (show cnt 4 + cnt 4 = 1024 by decide)).trans (part_whole c (full m ρ c)))) $$ Hlow
  iapply (wp_load 𝒱₀ (c : Thread nD τ) none Set.univ (m := bM) (Finset.subset_univ _)) $$ Hbuf; iintro Hbuf
  rw [read_b]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_o, wp_ret]; imodintro
  iapply Hk
  unfold bodyPost Φ₁ Dat.owesAt Pipeline.owesWithin
  rw [show (dats m ρ 0 c).owed t₀.succ = 0 from rfl, bigSep_five]
  isplitl [Hbuf HzB HzS0 HzV0 HzS1 HzV1 HzS2 HzV2 HzS3 HzV3 HzS4 HzV4]
  · isplitl [Hbuf]; · iexact Hbuf
    isplitr [HzB]
    · isplitl [HzS0 HzV0]
      · isplitl [HzS0] <;> iassumption
      isplitl [HzS1 HzV1]
      · isplitl [HzS1] <;> iassumption
      isplitl [HzS2 HzV2]
      · isplitl [HzS2] <;> iassumption
      isplitl [HzS3 HzV3]
      · isplitl [HzS3] <;> iassumption
      isplitl [HzS4] <;> iassumption
    iexact HzB
  isplitl [HO]
  · iexists (waited 4 (waited 3 (waited 2 (waited 1 (waited 0 (insert (SemLoc.reg barS, ()) W))))))
    isplitr; · ipureintro; exact fun _ _ => Or.inl trivial
    iexact HO
  isplitl [Hx]
  · iexists _; isplitr; · (ipureintro; rfl)
    iexact Hx
  isplitl [He]
  · iexists _; isplitr; · (ipureintro; rfl)
    iexact He
  isplitl [Hw]
  · iexists _; isplitr; · (ipureintro; rfl)
    iexact Hw
  iexists _; isplitr; · (ipureintro; rfl)
  iexact Hout

def bodyPre' (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
/-- The pipeline library's obligation on device `c`'s body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hcr, Hlev⟩, Hbuf⟩, Ho, Hx, He, Hw, Hout⟩
  iapply (sound_body m ρ K c fun _ => bodyPost m ρ c)
  unfold bodyPre
  isplitr []
  · isplitl [Hg Hcr Hlev Hbuf]
    · isplitl [Hg]; · iexact Hg
      isplitl [Hcr]; · iexact Hcr
      isplitl [Hlev] <;> iassumption
    isplitl [Ho]; · iexact Ho
    isplitl [Hx]; · iexact Hx
    isplitl [He]; · iexact He
    isplitl [Hw] <;> iassumption
  · iintro H; iexact H

end Body

end Cert.MoE

end
-- ==== Proof.Run.lean ====
/-
The launch: the exchange's ghost state dealt to the devices, and the run of @main.
-/
module

public import proofs.«01_k».proof.Proof.BodyRun
public import Idealize.ShloMosaic.Lib.Pipeline.CollectiveSegs

@[expose] public section

noncomputable section

namespace Cert.MoE

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch element -/

/-- The kernel's own semaphores: the transfer semaphores. -/
abbrev osem : Fin 5 ⊕ Fin 5 → SemLoc sig := fun x => csem (.inr x)

/-- The kernel's own semaphores are scoped and distinct. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- The eleven cells of a device are distinct. -/
theorem csem_injective : Function.Injective csem := by unfold Function.Injective; decide
/-- All cells of all devices are distinct. -/
theorem kcell_injective : Function.Injective (kcell : Dev nD × Ce → GSem nD τ sig) := by
  rintro ⟨c, k⟩ ⟨c', k'⟩ h
  have h1 : c = c' := by have := congrArg (fun g : GSem nD τ sig => g.1.1) h; exact this
  have h2 : k = k' := csem_injective (congrArg Prod.snd h)
  rw [h1, h2]
def allCells : Finset (GSem nD τ sig) := Finset.univ.map ⟨kcell, kcell_injective⟩

/-- The duties of a device's own cells, by step: its barrier's, its send cell's, its receive cell's. -/
abbrev tsem (x : Fin 5 × Fin 3) : SemLoc sig × Duty := match x.2 with
  | 0 => (.reg barS, x.1) | 1 => (.dma (sendS x.1), 0) | 2 => (.dma (recvS x.1), 0)
/-- The semaphores of the tokens are distinct. -/
theorem tsem_injective : Function.Injective tsem := by unfold Function.Injective; decide
abbrev tokOf (x : Dev nD × Fin 5 × Fin 3) : GSem nD τ sig × ℕ × Duty := (((x.1 : Thread nD τ), (tsem x.2).1), 0, (tsem x.2).2)
/-- The tokens are distinct. -/
theorem tokOf_injective : Function.Injective tokOf := by
  rintro ⟨c, j⟩ ⟨c', j'⟩ h
  have h1 : c = c' := by have := congrArg (fun x : GSem nD τ sig × ℕ × Duty => x.1.1.1) h; exact this
  have h2 : j = j' := tsem_injective (congrArg (fun x : GSem nD τ sig × ℕ × Duty => (x.1.2, x.2.2)) h)
  rw [h1, h2]
def allToks : Finset (GSem nD τ sig × ℕ × Duty) := Finset.univ.map ⟨tokOf, tokOf_injective⟩

def u₀ : UU :=
  (initOf (Pipeline.cells cfgs cellOf_inj) (Pipeline.launchToks cfgs cellOf_inj), initOf allCells allToks)

/-- The tokens of the duties of device `c`'s own cells, of step `k`. -/
def tok (c : Dev nD) (k : Fin 5) : sProp 𝕄 :=
  iprop(dutyTok EX (barCell c) 0 k ∗ dutyTok EX (sendCell c k) 0 0 ∗ dutyTok EX (recvCell c k) 0 0)

/-- What the launch deals to device `c`. -/
def G (c : Dev nD) : sProp 𝕄 :=
  iprop((bigSep Finset.univ fun k : Ce => roundState EX (plan m ρ) (kcell (c, k)) 0)
    ∗ (bigSep Finset.univ fun k : Ce => iprop(atPos EX (kcell (c, k)) 0 ∅ 0 ∗ reached EX (kcell (c, k)) 0)) ∗ bigSep Finset.univ fun k : Fin 5 => tok c k)

/-- What the global step makes of it. -/
def G' (c : Dev nD) : sProp 𝕄 := iprop(∃ K, ghost m ρ K c)

/-- A product of three, written out. -/
theorem bigSep_three {M : Type} [URA M] (Φ : Fin 3 → sProp M) : bigSep Finset.univ Φ = iprop(Φ 0 ∗ Φ 1 ∗ Φ 2) :=
  bigSep_univ_eq_bigSepL [0, 1, 2] (by decide) (by decide) Φ
/-- A product over a device's cells, by kind. -/
theorem bigSep_cells {M : Type} [URA M] (Φ : Ce → sProp M) : bigSep Finset.univ Φ
    = iprop(Φ (.inl ()) ∗ (bigSep Finset.univ fun k => Φ (.inr (.inl k))) ∗ bigSep Finset.univ fun k => Φ (.inr (.inr k))) := by
  rw [BI.bigSep_univ_sum, BI.bigSep_univ_sum, BI.bigSep_univ_of_subsingleton ()]; rfl

/-- The protocol's initial resources, dealt out to the devices. -/
theorem fund_all : BI.own (EX (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Ce => Φ (kcell (c, k)) := by
    unfold allCells; rw [bigSep_map, bigSep_univ_prod]; rfl
  have hT : bigSep allToks (fun x => (dutyTok EX x.1 x.2.1 x.2.2 : sProp 𝕄)) = bigSep Finset.univ fun c : Dev nD => bigSep Finset.univ fun k : Fin 5 => tok c k := by
    unfold allToks; rw [bigSep_map, bigSep_univ_prod]
    refine bigSep_congr fun c _ => ?_
    rw [bigSep_univ_prod]
    exact bigSep_congr fun k _ => by unfold tok; rw [bigSep_three]; rfl
  iintro HX
  imod (Rounds.fund EX (plan m ρ) allCells allToks) $$ HX with ⟨Hst, Hr, Hat, Htok⟩
  imodintro
  ihave Hst' := (Entails.of_eq (hX fun g => roundState EX (plan m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier is the one semaphore that the launch keeps. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores at zero, written out. -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 5 => semVal (sendCell c k) 0) ∗ bigSep Finset.univ fun k : Fin 5 => semVal (recvCell c k) 0) := by
  unfold Pipeline.ownSems0; rw [BI.bigSep_univ_sum]; rfl

/-- All of a device's semaphores at zero, by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ce => semVal (kcell (c, k)) 0 : sProp 𝕄) := by
  rw [ownSems0_eq, unscopedSems0_eq, bigSep_cells]
  iintro ⟨HO, HB⟩
  isplitl [HB] <;> iassumption

/-- A device's cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (plan m ρ) κ (kcell (c, k))))
          ∗ (bigSep Finset.univ fun k => iprop(atPos EX (kcell (c, k)) 0 ∅ 0 ∗ reached EX (kcell (c, k)) 0)) ∗ bigSep Finset.univ fun k : Fin 5 => tok c k) := by
  unfold G
  iintro ⟨Hos, Hus, Hst, Hat, Htok⟩
  ihave Hv := (sems0_eq (F := F) c) $$ [Hos Hus]
  · isplitl [Hos] <;> iassumption
  imod (show iprop((bigSep Finset.univ fun k : Ce => semVal (kcell (c, k)) 0) ∗ bigSep Finset.univ fun k : Ce => roundState EX (plan m ρ) (kcell (c, k)) 0)
      ⊢ (|={Set.univ}=> bigSep Finset.univ fun k => iprop(∃ κ : ℕ, cellInv EX (plan m ρ) κ (kcell (c, k))) : sProp 𝕄) from by
        rw [← bigSep_sep']
        exact (bigSep_mono fun k _ => (Rounds.body_intro EX (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay with them. -/
theorem toks_dealt : (bigSep Finset.univ fun c : Dev nD => bigSep Finset.univ fun k : Fin 5 => (tok c k : sProp 𝕄))
    ⊢ bigSep Finset.univ fun c : Dev nD => bigSep Finset.univ fun k : Fin 5 => payTok c k := by
  rw [BI.bigSep_univ_comm (fun (c : Dev nD) (k : Fin 5) => (tok c k : sProp 𝕄)), BI.bigSep_univ_comm (fun (c : Dev nD) (k : Fin 5) => (payTok c k : sProp 𝕄))]
  refine bigSep_mono fun k _ => ?_
  unfold tok payTok
  rw [bigSep_sep', bigSep_sep', bigSep_sep', bigSep_sep',
    bigSep_univ_equiv (swap k) (fun c : Dev nD => (dutyTok EX (barCell c) 0 k : sProp 𝕄)),
    bigSep_univ_equiv (swap k) (fun c : Dev nD => (dutyTok EX (recvCell c k) 0 0 : sProp 𝕄))]
  exact Idealize.SL.BI.Entails.refl _

/-- A persistent fact may be used in every factor of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions and tokens, arranged by step. -/
theorem linear_intro (c : Dev nD) :
    iprop((bigSep Finset.univ fun k : Ce => atPos EX (kcell (c, k)) 0 ∅ 0) ∗ bigSep Finset.univ fun k : Fin 5 => payTok c k) ⊢ (linear c : sProp 𝕄) := by
  unfold linear stepGhost
  rw [bigSep_cells, bigSep_sep', bigSep_sep']
  iintro ⟨⟨HB, HS, HV⟩, Ht⟩
  isplitl [HB]; · iexact HB
  isplitl [HS]; · iexact HS
  isplitl [HV] <;> iassumption

/-- The cells' invariants are shared with every device. -/
theorem regroup :
    (bigSep Finset.univ fun c : Dev nD => iprop((bigSep Finset.univ fun k => iprop(∃ κ : ℕ, cellInv EX (plan m ρ) κ (kcell (c, k))))
          ∗ (bigSep Finset.univ fun k => iprop(atPos EX (kcell (c, k)) 0 ∅ 0 ∗ reached EX (kcell (c, k)) 0)) ∗ bigSep Finset.univ fun k : Fin 5 => tok c k) : sProp 𝕄)
      ⊢ bigSep Finset.univ (G' m ρ) := by
  rw [bigSep_sep', bigSep_sep', ← bigSep_univ_prod (fun ck : Dev nD × Ce => iprop(∃ κ : ℕ, cellInv EX (plan m ρ) κ (kcell ck))),
    bigSep_congr (s := Finset.univ) (fun (c : Dev nD) _ => bigSep_sep' Finset.univ (fun k : Ce => (atPos EX (kcell (c, k)) 0 ∅ 0 : sProp 𝕄)) (fun k => reached EX (kcell (c, k)) 0)),
    bigSep_sep', ← bigSep_univ_prod (fun ck : Dev nD × Ce => (reached EX (kcell ck) 0 : sProp 𝕄))]
  iintro ⟨HI, ⟨Hat, #HR⟩, Htok⟩
  ihave HK := (BI.bigSep_exists_pi Finset.univ (fun (ck : Dev nD × Ce) (κ : ℕ) => (cellInv EX (plan m ρ) κ (kcell ck) : sProp 𝕄))) $$ HI
  icases HK with ⟨%K, #HI⟩
  ihave Htk := (toks_dealt (F := F)) $$ Htok
  iapply (bigSep_with_persistent (R := records m ρ K) (Φ := fun c => linear c) fun c _ => show _ ⊢ G' m ρ c from by
    unfold G' ghost; iintro H; iexists K; iexact H)
  isplitr
  · unfold records; isplitl; · iexact HI
    iexact HR
  · iapply ((Entails.of_eq (bigSep_sep' Finset.univ (fun c : Dev nD => bigSep Finset.univ fun k : Ce => (atPos EX (kcell (c, k)) 0 ∅ 0 : sProp 𝕄))
        (fun c => bigSep Finset.univ fun k : Fin 5 => payTok c k)).symm).trans (bigSep_mono fun c _ => linear_intro c))
    isplitl [Hat]; · iexact Hat
    iexact Htk

/-- The global step: every device's semaphores become the cells' invariants. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What device `d` owes a cell. -/
theorem owed_at (d : Dev nD) (g : GSem nD τ sig) :
    O₀ d g () = (∑ k : Fin 5, (tallyAt (recvCell (peer k d) k) () (NN k) : CellTallies nD τ sig Unit) g ())
      + ∑ k : Fin 5, (tallyAt (barCell (peer k d)) () 1 : CellTallies nD τ sig Unit) g () := by
  unfold O₀ steps
  simp only [oweB, oweR, Pi.add_apply, Finsupp.add_apply, Pi.zero_apply, Finsupp.zero_apply]
  rw [Fin.sum_univ_five, Fin.sum_univ_five]
  omega

/-- The barrier's cell is no receive cell. -/
theorem bar_ne_recv (c d : Dev nD) (k : Fin 5) : barCell c ≠ recvCell d k := fun h => by cases congrArg Prod.snd h

/-- All the devices' debts of one kind to one cell: the cell's partner of that step owes it, no one else does. -/
theorem sum_tally (g : Dev nD → GSem nD τ sig) (hg : Function.Injective g) (k : Fin 5) (c : Dev nD) (n : ℕ) :
    ∑ d : Dev nD, (tallyAt (g (peer k d)) () n : CellTallies nD τ sig Unit) (g c) () = n := by
  refine (Equiv.sum_comp (swap k) (fun d => (tallyAt (g d) () n : CellTallies nD τ sig Unit) (g c) ())).trans ?_
  rw [Finset.sum_eq_single c (fun d _ hd => by rw [tallyAt_apply, if_neg fun h => hd (hg h.1.symm)]) (fun h => absurd (Finset.mem_univ c) h),
    tallyAt_apply, if_pos ⟨rfl, rfl⟩]

/-- The cells of one semaphore on distinct devices are distinct. -/
theorem cell_inj (sm : SemLoc sig) : Function.Injective fun c : Dev nD => (((c : Thread nD τ), sm) : GSem nD τ sig) := fun a b h => by
  have := congrArg (fun g : GSem nD τ sig => g.1.1) h; exact this

/-- At the launch a barrier's cell is owed five. -/
theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_at d (barCell c), Finset.sum_add_distrib,
    Finset.sum_eq_zero fun d _ => Finset.sum_eq_zero fun k _ => by rw [tallyAt_ne_cell (fun h => bar_ne_recv _ _ _ h), Finsupp.zero_apply],
    Nat.zero_add, Finset.sum_comm, Finset.sum_congr rfl fun k _ => sum_tally _ (cell_inj (.reg barS)) k c 1]
  rfl

/-- At the launch a receive cell is owed its copy's size. -/
theorem launch_recv (c : Dev nD) (k : Fin 5) :
    tallyOn (recvCell c k) (launchCredit (Pipeline.owing O₀) 0 (recvCell c k)) = (tallyAt (recvCell c k) () (NN k) : CellTallies nD τ sig Unit) := by
  unfold tallyAt; refine congrArg _ (Finsupp.ext fun u => ?_); cases u
  rw [Pipeline.launchCredit_owing, Finsupp.single_eq_same, Finset.sum_congr rfl fun d _ => owed_at d (recvCell c k), Finset.sum_add_distrib,
    Finset.sum_comm,
    Finset.sum_eq_single k (fun k' _ hk => Finset.sum_eq_zero fun d _ => by
      rw [tallyAt_ne_cell (fun h => hk (by
        have h2 : csem (.inr (.inr k)) = csem (.inr (.inr k')) := congrArg Prod.snd h
        exact (Sum.inr.inj (Sum.inr.inj (csem_injective h2))).symm)), Finsupp.zero_apply]) (fun h => absurd (Finset.mem_univ k) h),
    sum_tally _ (cell_inj (.dma (recvS k))) k c (NN k),
    Finset.sum_eq_zero fun d _ => Finset.sum_eq_zero fun k' _ => by rw [tallyAt_ne_cell (fun h => bar_ne_recv _ _ _ h.symm), Finsupp.zero_apply],
    Nat.add_zero]

/-- The cells that bring credit: the barrier cell and the receive cells. -/
abbrev credSem : Unit ⊕ Fin 5 → SemLoc sig
  | .inl _ => .reg barS
  | .inr k => .dma (recvS k)
/-- The semaphores with credits are distinct. -/
theorem credSem_injective : Function.Injective credSem := by unfold Function.Injective; decide

/-- The credits of the launch, written out. -/
theorem creds (c : Dev nD) : (Pipeline.launchCred O₀ c : sProp 𝕄) ⊢ credits c := by
  unfold Pipeline.launchCred credits
  refine (bigSep_subset (Finset.subset_univ (Finset.univ.map ⟨credSem, credSem_injective⟩))).trans ?_
  rw [bigSep_map, BI.bigSep_univ_sum, BI.bigSep_univ_of_subsingleton ()]
  refine Entails.of_eq (congrArg₂ BI.sep (congrArg cred (launch_bar c)) (bigSep_congr fun k _ => congrArg cred (launch_recv c k)))

/-! ## The side conditions of the launch theorem -/

/-- The unused operand's array, which the launch holds beside the region. -/
abbrev restPts (c : Dev nD) : sProp 𝕄 := ((c : Thread nD τ).loc main_arg1) ↦{fullShare} m ((c : Thread nD τ).loc main_arg1)

/-- What a device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ restPts m c) := by
  rw [Pipeline.unscopedRestP_none, unscopedRest0_eq]
  iintro ⟨Hrest, Hlev, Hcr, -, HG⟩
  ihave Hc := (creds (F := F) c) $$ Hcr
  imodintro
  unfold start G'
  isplitr [Hrest]
  · isplitl [HG]; · iexact HG
    isplitl [Hc] <;> iassumption
  · iexact Hrest

/-- What the body starts with. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What the body gives back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  rw [bigSep_sep']
  iintro ⟨Hr, ⟨HzS, HzV⟩, HzB⟩
  isplitl [HzB]; · iexact HzB
  isplitl [HzS HzV]
  · isplitl [HzS] <;> iassumption
  iexists (full m ρ c); iexact Hr

/-- The pipeline's own waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- For any float values, from any memory with zero counters, every weakly fair execution of @main on the 32 devices
    terminates; each device's windows' arrays end at the computed contents, the operand the kernel does not read is
    unchanged, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := restPts m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hz, HSI⟩
      icombine HSI Hz gives %h
      imod (Pipeline.unscopedSems0_read (X := unscopedSems0 c) (c := c) fupd_intro s') $$ [Hu HSI] with ⟨%hs, HSI⟩
      · isplitl [Hu] <;> iassumption
      imodintro
      isplitr
      · ipureintro; exact ⟨hs, Buf.eq_of_forall_mem_univ h⟩
      iexact HSI)
    (hQ := fun _ h hs => ⟨fun c => ⟨(h c).1, (h c).2.2.2⟩, sem_eq_zero hs fun c => (h c).2.2.1⟩)

end Cert.MoE

end
-- ==== Proof.Rank.lean ====
/-
The rank of a token among the tokens of its expert: how many earlier tokens chose the same expert.
-/
module

public import Idealize.ShloMosaic.PureOps.Vector
public import Mathlib.Data.Fintype.Card
public import Mathlib.Data.Finset.Card
public import Mathlib.Data.Fintype.BigOperators

@[expose] public section

namespace Cert.MoE

/-- Of the tokens before number `k`, how many chose expert `e`. -/
def upTo (E : Fin 1024 → Fin 128) (k : ℕ) (e : Fin 128) : ℕ := (Finset.univ.filter fun j : Fin 1024 => j.val < k ∧ E j = e).card

/-- The rank of a token in its expert's queue. -/
def rank (E : Fin 1024 → Fin 128) (i : Fin 1024) : ℕ := upTo E i.val (E i)

/-- No token comes before the first. -/
theorem upTo_zero (E : Fin 1024 → Fin 128) (e : Fin 128) : upTo E 0 e = 0 := by
  simp [upTo]

/-- One more token counts if it names the expert. -/
theorem upTo_succ (E : Fin 1024 → Fin 128) (k : Fin 1024) (e : Fin 128) :
    upTo E (k.val + 1) e = upTo E k.val e + if e = E k then 1 else 0 := by
  unfold upTo
  by_cases h : e = E k
  · rw [if_pos h]
    have hs : (Finset.univ.filter fun j : Fin 1024 => j.val < k.val + 1 ∧ E j = e)
        = insert k (Finset.univ.filter fun j : Fin 1024 => j.val < k.val ∧ E j = e) := by
      ext j
      simp only [Finset.mem_filter, Finset.mem_univ, true_and, Finset.mem_insert, Fin.ext_iff]
      constructor
      · rintro ⟨h1, h2⟩
        by_cases hj : j.val = k.val
        · exact Or.inl hj
        · exact Or.inr ⟨by omega, h2⟩
      · rintro (h1 | ⟨h1, h2⟩)
        · obtain rfl : j = k := Fin.ext h1
          exact ⟨by omega, by rw [h]⟩
        · exact ⟨by omega, h2⟩
    rw [hs, Finset.card_insert_of_notMem (by simp)]
  · rw [if_neg h]
    refine (?_ : _ = _).trans (Nat.add_zero _).symm
    refine congrArg Finset.card ?_
    ext j
    simp only [Finset.mem_filter, Finset.mem_univ, true_and]
    constructor
    · rintro ⟨h1, h2⟩
      refine ⟨?_, h2⟩
      rcases Nat.lt_succ_iff_lt_or_eq.1 h1 with h1 | h1
      · exact h1
      · obtain rfl : j = k := Fin.ext h1
        exact absurd h2.symm h
    · rintro ⟨h1, h2⟩
      exact ⟨by omega, h2⟩

/-- The count grows. -/
theorem upTo_mono (E : Fin 1024 → Fin 128) {k l : ℕ} (h : k ≤ l) (e : Fin 128) : upTo E k e ≤ upTo E l e :=
  Finset.card_le_card fun j hj => by
    simp only [Finset.mem_filter, Finset.mem_univ, true_and] at hj ⊢
    exact ⟨by omega, hj.2⟩

/-- The count is at most the number of tokens. -/
theorem upTo_le (E : Fin 1024 → Fin 128) (k : ℕ) (e : Fin 128) : upTo E k e ≤ 1024 :=
  (Finset.card_le_univ _).trans (by simp)

/-- Two tokens of one expert have different ranks. -/
theorem rank_inj (E : Fin 1024 → Fin 128) {i j : Fin 1024} (he : E i = E j) (hr : rank E i = rank E j) : i = j := by
  have key : ∀ a b : Fin 1024, E a = E b → rank E a = rank E b → ¬ a.val < b.val := by
    intro a b h1 h2 hlt
    have h3 : upTo E (a.val + 1) (E b) ≤ upTo E b.val (E b) := upTo_mono E hlt _
    rw [upTo_succ, if_pos h1.symm] at h3
    unfold rank at h2
    rw [h1] at h2
    omega
  have h1 := key i j he hr
  have h2 := key j i he.symm hr.symm
  exact Fin.ext (by omega)

end Cert.MoE
-- ==== Proof.KernelValue.lean ====
/-
The kernel's result in closed form, over the extended reals: the one-hot products select, so a token whose rank is
under six gets its row times its expert's weights and every other token zero.
-/
module

public import proofs.«01_k».proof.Proof.Run
public import proofs.«01_k».proof.Proof.Rank
public import Idealize.ShloMosaic.Lib.Pointwise
public import Idealize.ShloMosaic.Lib.DynamicIndex

@[expose] public section

noncomputable section

namespace Cert.MoE

open Cert.KernelIdeal Cert.KernelIdeal.Gen
open Idealize.ShloMosaic Idealize.ShloMosaic.TcCoe

variable (E : Fin 1024 → Fin 128)

/-! ## Words -/

/-- A comparison's bit, widened and converted, is one or zero. -/
theorem ind_eq (p : Bool) : (FloatOps.sitofp (F := Ideal) FTy.f32 (BitVec.setWidth 32 (BitVec.ofBool p)) : EReal) = if p then 1 else 0 := by
  cases p
  · show (((0 : ℤ) : ℝ) : EReal) = _; simp
  · show (((1 : ℤ) : ℝ) : EReal) = _; simp

/-- A small natural number converts to its word. -/
theorem fptosi_nat (n : ℕ) (hn : n < 2 ^ 31) : FloatOps.fptosi (F := Ideal) (φ := FTy.f32) 32 ((n : EReal)) = BitVec.ofNat 32 n := by
  show Ideal.fptosi 32 ((n : EReal)) = _
  rw [show ((n : EReal)) = ((n : ℝ) : EReal) from EReal.coe_natCast.symm]
  have h : Ideal.toIntClamped (-(2 ^ (32 - 1) : Nat)) ((2 ^ (32 - 1) : Nat) - 1) ((n : ℝ) : EReal) = (n : Int) := by
    show max _ (min _ (if (0 : ℝ) ≤ (n : ℝ) then ⌊(n : ℝ)⌋ else ⌈(n : ℝ)⌉)) = _
    rw [if_pos (Nat.cast_nonneg n), Int.floor_natCast]
    omega
  show BitVec.ofInt 32 _ = _
  rw [h, BitVec.ofInt_natCast]

/-- Two small numbers have the same word only if they are equal. -/
theorem ofNat_eq_iff {a b : ℕ} (ha : a < 2 ^ 32) (hb : b < 2 ^ 32) : (BitVec.ofNat 32 a == BitVec.ofNat 32 b) = decide (a = b) := by
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl

/-- Selecting by an indicator under a sum. -/
theorem sum_ind {n : ℕ} (p : Fin n → Prop) [DecidablePred p] (f : Fin n → EReal) (k : Fin n) (hp : ∀ j, p j ↔ j = k) :
    (∑ j, (if p j then (1 : EReal) else 0) * f j) = f k := by
  rw [Finset.sum_eq_single k]
  · rw [if_pos ((hp k).2 rfl), one_mul]
  · intro j _ hj; rw [if_neg (fun h => hj ((hp j).1 h)), zero_mul]
  · intro h; exact absurd (Finset.mem_univ k) h

/-- A sum of indicators is how many hold. -/
theorem sum_ind_card {n : ℕ} (p : Fin n → Prop) [DecidablePred p] : (∑ j, (if p j then (1 : EReal) else 0)) = ((Finset.univ.filter p).card : EReal) := by
  rw [Finset.sum_boole]

/-- A selection that selects nothing sums to zero. -/
theorem sum_zero {n : ℕ} (p : Fin n → Prop) [DecidablePred p] (f : Fin n → EReal) (hp : ∀ j, ¬ p j) :
    (∑ j, (if p j then (1 : EReal) else 0) * f j) = 0 :=
  Finset.sum_eq_zero fun j _ => by rw [if_neg (hp j), zero_mul]

/-! ## Ranks and slots -/

/-- The words of the experts, one column. -/
abbrev Experts (e : IVec S1024x1 32) : Prop := ∀ j : Fin 1024, e (ix2 j 0) = BitVec.ofNat 32 (E j).val

/-- The one-hot matrix, entry by entry. -/
theorem hot_eq (e : IVec S1024x1 32) (he : Experts E e) (i : Fin 1024) (c : Fin 128) :
    (k0_pay3 (F := Ideal) e (ix2 i c) : EReal) = if E i = c then 1 else 0 := by
  unfold k0_pay3 k0_pay2
  pointwise
  rw [he i]
  refine (ind_eq _).trans ?_
  have h1 := (E i).isLt
  have h2 := c.isLt
  rw [ofNat_eq_iff (by omega) (by omega)]
  simp only [decide_eq_true_eq, Fin.ext_iff]

/-- The product with the lower triangle, read at a token's own expert, is the token's rank. -/
theorem rank_eq (v : FVec Ideal S1024x128 .f32) (hv : ∀ i c, (v (ix2 i c) : EReal) = if E i = c then 1 else 0) (i : Fin 1024) :
    k0_pay4 (F := Ideal) v (ix2 i 0) = BitVec.ofNat 32 (rank E i) := by
  unfold k0_pay4
  pointwise
  refine Eq.trans (congrArg (FloatOps.fptosi (F := Ideal) (φ := FTy.f32) 32) ?_) (fptosi_nat _ (by have := upTo_le E i.val (E i); unfold rank; omega))
  have hs : ∀ a : Fin 1024, (FloatOps.sitofp (F := Ideal) FTy.f32 (BitVec.setWidth 32 (IntOp.cmpi CmpIPredicate.slt (BitVec.ofNat 32 a.val) (BitVec.ofNat 32 i.val))) : EReal)
      = if a.val < i.val then 1 else 0 := by
    intro a
    refine (ind_eq _).trans ?_
    have h1 := a.isLt
    have h2 := i.isLt
    rw [BitVec.slt, toInt_ofNat_of_lt (by omega), toInt_ofNat_of_lt (by omega)]
    simp only [decide_eq_true_eq, Nat.cast_lt]
  simp only [hv, hs]
  refine (sum_ind (fun c => E i = c) _ (E i) (fun c => eq_comm)).trans ?_
  unfold rank upTo
  rw [← sum_ind_card]
  refine Finset.sum_congr rfl fun a _ => ?_
  by_cases h1 : a.val < i.val <;> by_cases h2 : E a = E i <;> simp [h1, h2]

/-- The word division by four finds the owner. -/
theorem div_word : ∀ e : Fin 128, Scalar.select
          (IntOp.andi
            (IntOp.cmpi CmpIPredicate.ne
              (IntOp.subi (BitVec.setWidth 32 (IntOp.cmpi CmpIPredicate.sgt (BitVec.ofNat 32 e.val) 0#32))
                (BitVec.setWidth 32 (IntOp.cmpi CmpIPredicate.slt (BitVec.ofNat 32 e.val) 0#32)))
              (Scalar.subi (Scalar.extui (Scalar.cmpi CmpIPredicate.sgt 4#32 0#32))
                (Scalar.extui (Scalar.cmpi CmpIPredicate.slt 4#32 0#32))))
            (IntOp.cmpi CmpIPredicate.ne (IntOp.remsi ArithUnit.vector (BitVec.ofNat 32 e.val) 4#32) 0#32))
          (IntOp.subi (IntOp.divsi ArithUnit.vector (BitVec.ofNat 32 e.val) 4#32) 1#32)
          (IntOp.divsi ArithUnit.vector (BitVec.ofNat 32 e.val) 4#32) = BitVec.ofNat 32 (e.val / 4) := by decide +kernel

/-- The device that holds an expert, and the expert's place there. -/
def ownerOf (e : Fin 128) : Dev nD := ⟨e.val / 4, by have := e.isLt; show _ < 32; omega⟩
def placeOf (e : Fin 128) : Fin 4 := ⟨e.val % 4, Nat.mod_lt _ (by decide)⟩

/-- The word arithmetic of the block number. -/
theorem xor_word : ∀ a c : Fin 32, IntOp.muli 32#32 (IntOp.xori (BitVec.ofNat 32 a.val) (me c)) = BitVec.ofNat 32 (32 * (flip c a).val) := by decide +kernel

/-- The first part of a token's slot: its block of 32 rows. -/
theorem slot_hi (c : Dev nD) (e : IVec S1024x1 32) (he : Experts E e) (i : Fin 1024) :
    k0_pay5 (me c) (k0_pay2 (F := Ideal) e) (ix2 i 0) = BitVec.ofNat 32 (32 * (flip c (ownerOf (E i))).val) := by
  unfold k0_pay5 k0_pay2
  pointwise
  rw [he i, div_word]
  exact xor_word (ownerOf (E i)) c

/-- The word remainder by four finds the place. -/
theorem mod_word : ∀ e : Fin 128, IntOp.remsi ArithUnit.vector (BitVec.ofNat 32 e.val) four = BitVec.ofNat 32 (placeOf e).val := by decide +kernel

/-- The remainder of each token's expert. -/
theorem slot_lo (e : IVec S1024x1 32) (he : Experts E e) (i : Fin 1024) :
    k0_pay6 (k0_pay2 (F := Ideal) e) (ix2 i 0) = BitVec.ofNat 32 (placeOf (E i)).val := by
  unfold k0_pay6 k0_pay2
  pointwise
  rw [he i]
  exact mod_word (E i)

/-- The word arithmetic of the place's eight rows. -/
theorem place_word : ∀ p : Fin 4, IntOp.muli (8#32)
                  (Scalar.select
                    (IntOp.andi
                      (IntOp.xori (IntOp.cmpi CmpIPredicate.slt (BitVec.ofNat 32 p.val) 0#32)
                        (Scalar.cmpi CmpIPredicate.slt four 0#32))
                      (IntOp.cmpi CmpIPredicate.ne (BitVec.ofNat 32 p.val) 0#32))
                    (IntOp.addi (BitVec.ofNat 32 p.val) four) (BitVec.ofNat 32 p.val)) = BitVec.ofNat 32 (8 * p.val) := by decide +kernel

/-- A token's slot in device `c`'s buffer. -/
def slot (c : Dev nD) (i : Fin 1024) : ℕ := 32 * (flip c (ownerOf (E i))).val + 8 * (placeOf (E i)).val + rank E i

/-- The selection matrix, entry by entry. -/
theorem sel_eq (c : Dev nD) (a b d : IVec S1024x1 32) (ha : ∀ i, a (ix2 i 0) = BitVec.ofNat 32 (rank E i))
    (hb : ∀ i, b (ix2 i 0) = BitVec.ofNat 32 (32 * (flip c (ownerOf (E i))).val)) (hd : ∀ i, d (ix2 i 0) = BitVec.ofNat 32 (placeOf (E i)).val)
    (g i : Fin 1024) :
    (k0_pay8 (F := Ideal) a b four d k0_pay7 (ix2 g i) : EReal) = if rank E i < 6 ∧ g.val = slot E c i then 1 else 0 := by
  unfold k0_pay8 k0_pay7
  pointwise
  rw [ha, hb, hd, place_word]
  refine (ind_eq _).trans ?_
  have h0 := g.isLt
  have h1 := upTo_le E i.val (E i)
  have h2 : (flip c (ownerOf (E i))).val < 32 := (flip c (ownerOf (E i))).isLt
  have h3 := (placeOf (E i)).isLt
  rw [show IntOp.cmpi CmpIPredicate.slt (BitVec.ofNat 32 (rank E i)) 6#32 = BitVec.ofBool (decide (rank E i < 6)) from by
    show BitVec.ofBool _ = _
    rw [BitVec.slt, toInt_ofNat_of_lt (by unfold rank; omega), show (6#32 : BitVec 32).toInt = 6 from rfl]
    congr 1; simp only [decide_eq_decide]; omega]
  by_cases hr : rank E i < 6
  · rw [decide_eq_true hr]
    rw [show Scalar.select (BitVec.ofBool true) (IntOp.addi (IntOp.addi (BitVec.ofNat 32 (32 * (flip c (ownerOf (E i))).val)) (BitVec.ofNat 32 (8 * (placeOf (E i)).val))) (BitVec.ofNat 32 (rank E i))) 4294967295#32
      = BitVec.ofNat 32 (slot E c i) from by
        show BitVec.ofNat 32 _ + BitVec.ofNat 32 _ + BitVec.ofNat 32 _ = _
        rw [← BitVec.ofNat_add, ← BitVec.ofNat_add]; rfl]
    rw [ofNat_eq_iff (by omega) (by unfold slot; omega)]
    simp only [decide_eq_true_eq, hr, true_and]
  · rw [decide_eq_false hr]
    rw [show Scalar.select (BitVec.ofBool false) (IntOp.addi (IntOp.addi (BitVec.ofNat 32 (32 * (flip c (ownerOf (E i))).val)) (BitVec.ofNat 32 (8 * (placeOf (E i)).val))) (BitVec.ofNat 32 (rank E i))) 4294967295#32
      = BitVec.ofNat 32 4294967295 from rfl, ofNat_eq_iff (by omega) (by omega)]
    simp only [decide_eq_true_eq, hr, false_and]
    rw [if_neg (by omega), if_neg (fun h => h)]

/-! ## Slots and devices -/

/-- Exclusive or with a device number undoes itself. -/
theorem flip_owner : ∀ c d : Dev nD, flip c (flip c d) = d := by decide +kernel
/-- Exclusive or can be moved across an equation. -/
theorem flip_eq : ∀ c d e : Dev nD, flip c d = e → d = flip c e := by decide +kernel

/-- A kept token's slot is one of the 1024 rows. -/
theorem slot_lt (c : Dev nD) (i : Fin 1024) (h : rank E i < 6) : slot E c i < 1024 := by
  have h2 : (flip c (ownerOf (E i))).val < 32 := (flip c (ownerOf (E i))).isLt
  have h3 := (placeOf (E i)).isLt
  unfold slot; omega

/-- An expert is known by its owner and its place. -/
theorem owner_place {a b : Fin 128} (h : ownerOf a = ownerOf b) (h' : placeOf a = placeOf b) : a = b := by
  have h1 : a.val / 4 = b.val / 4 := congrArg Fin.val h
  have h2 : a.val % 4 = b.val % 4 := congrArg Fin.val h'
  exact Fin.ext (by omega)

/-- Two tokens taken do not share a slot. -/
theorem slot_inj (c : Dev nD) {i j : Fin 1024} (hi : rank E i < 6) (hj : rank E j < 6) (h : slot E c i = slot E c j) : i = j := by
  unfold slot at h
  have h3 := (placeOf (E i)).isLt
  have h4 := (placeOf (E j)).isLt
  have h5 : flip c (ownerOf (E i)) = flip c (ownerOf (E j)) := Fin.ext (by omega)
  have h6 : ownerOf (E i) = ownerOf (E j) := by rw [← flip_owner c (ownerOf (E i)), h5, flip_owner]
  rw [h5] at h
  have h7 : placeOf (E i) = placeOf (E j) := Fin.ext (by omega)
  exact rank_inj E (owner_place h6 h7) (by rw [h7] at h; omega)

/-- On its expert's own device a token's slot is in the first block. -/
theorem slot_owner (i : Fin 1024) : slot E (ownerOf (E i)) i = 8 * (placeOf (E i)).val + rank E i := by
  have h : ∀ d : Dev nD, (flip d d).val = 0 := by decide +kernel
  unfold slot; rw [h]; omega

/-! ## The products -/

/-- The gathered row at a kept token's slot is the token. -/
theorem gathered_eq (c : Dev nD) (a b d : IVec S1024x1 32) (X : FVec Ideal S1024x512 .bf16)
    (hS : ∀ g i, (k0_pay8 (F := Ideal) a b four d k0_pay7 (ix2 g i) : EReal) = if rank E i < 6 ∧ g.val = slot E c i then 1 else 0)
    (i : Fin 1024) (hr : rank E i < 6) (o : Fin 32) (ho : o.val = slot E c i) (q : Fin 512) :
    (k0_pay9 (F := Ideal) a b four d k0_pay7 X (ix2 o q) : EReal) = X (ix2 i q) := by
  unfold k0_pay9
  generalize k0_pay8 (F := Ideal) a b four d k0_pay7 = S at hS ⊢
  pointwise
  simp only [hS]
  exact sum_ind (fun j => rank E j < 6 ∧ o.val = slot E c j) (fun j => X (ix2 j q)) i (fun j => ⟨fun h => slot_inj E c h.1 hr (by rw [← h.2, ho]), fun h => by
    subst h; exact ⟨hr, ho⟩⟩)

/-- A device's own row is the gathered row times its expert's matrix. -/
theorem own_rows (a b c d : IVec S1024x1 32) (X : FVec Ideal S1024x512 .bf16) (w : Fin 4 → Vec Ideal S1x512x1024 .bf16)
    (l : Fin 4) (r : ℕ) (hr : r < 8) (o : Fin 32) (ho : o.val = 8 * l.val + r) (h : Fin 1024) :
    (k0_pay13 (F := Ideal) (k0_pay9 a b four c d X) (k0_pay10 a b four c d X (w 0)) (k0_pay11 a b four c d X (w 1)) (k0_pay12 a b four c d X) (w 2) (w 3) (ix2 o h) : EReal)
      = ∑ q : Fin 512, (k0_pay9 (F := Ideal) a b four c d X (ix2 o q) : EReal) * w l (ix3 0 q h) := by
  unfold k0_pay10 k0_pay11 k0_pay12 k0_pay13
  generalize k0_pay9 (F := Ideal) a b four c d X = y
  pointwise
  match l, ho with
  | 0, ho => rw [dif_pos (show o.val < 8 by have : o.val = 8 * 0 + r := ho; omega)]
  | 1, ho =>
    have ho : o.val = 8 * 1 + r := ho
    rw [dif_neg (show ¬ o.val < 8 by omega), dif_pos (show o.val - 8 < 8 by omega)]
    exact Finset.sum_congr rfl fun q _ => congrArg (fun z : Fin 32 => (y (ix2 z q) : EReal) * w 1 (ix3 0 q h))
      (Fin.ext (show 8 + (o.val - 8) = o.val by omega))
  | 2, ho =>
    have ho : o.val = 8 * 2 + r := ho
    rw [dif_neg (show ¬ o.val < 8 by omega), dif_neg (show ¬ o.val - 8 < 8 by omega), dif_pos (show o.val - 8 - 8 < 8 by omega)]
    exact Finset.sum_congr rfl fun q _ => congrArg (fun z : Fin 32 => (y (ix2 z q) : EReal) * w 2 (ix3 0 q h))
      (Fin.ext (show 16 + (o.val - 8 - 8) = o.val by omega))
  | 3, ho =>
    have ho : o.val = 8 * 3 + r := ho
    rw [dif_neg (show ¬ o.val < 8 by omega), dif_neg (show ¬ o.val - 8 < 8 by omega), dif_neg (show ¬ o.val - 8 - 8 < 8 by omega)]
    exact Finset.sum_congr rfl fun q _ => congrArg (fun z : Fin 32 => (y (ix2 z q) : EReal) * w 3 (ix3 0 q h))
      (Fin.ext (show 24 + (o.val - 8 - 8 - 8) = o.val by omega))

/-! ## The result -/

variable (m : (ℓ : Loc nD τ sig) → Buf (Elt Ideal) ℓ) (ρ : Dev nD → PrngReg)

/-- A device's tokens, its matrices and its result, as arrays. -/
abbrev xV (c : Dev nD) : FVec Ideal S1024x512 .bf16 := xs m ρ c
abbrev wV (c : Dev nD) : FVec Ideal S4x512x1024 .bf16 := ws m ρ c
abbrev fullV (c : Dev nD) : FVec Ideal S1024x1024 .bf16 := full m ρ c
abbrev outV (c : Dev nD) : FVec Ideal S1024x1024 .f32 := outAt m ρ c

/-- The selection matrix of a device, entry by entry. -/
theorem selM_eq (c : Dev nD) (he : Experts E (es m ρ c)) (g i : Fin 1024) :
    (selM m ρ c (ix2 g i) : EReal) = if rank E i < 6 ∧ g.val = slot E c i then 1 else 0 :=
  sel_eq E c _ _ _ (fun i => rank_eq E _ (hot_eq E _ he) i) (slot_hi E c _ he) (slot_lo E _ he) g i

/-- The matrix at place `l` of device `c`, entry by entry. -/
theorem w1_apply (c : Dev nD) (l : Fin 4) (hl) (q : Fin 512) (h : Fin 1024) :
    w1 m ρ c l.val hl (ix3 0 q h) = ws m ρ c (ix3 l q h) := by
  unfold w1
  refine congrArg (ws m ρ c) (funext fun a => Fin.ext ?_)
  match a with
  | ⟨0, _⟩ => show l.val + 1 * 0 = l.val; omega
  | ⟨1, _⟩ => show 0 + 1 * q.val = q.val; omega
  | ⟨2, _⟩ => show 0 + 1 * h.val = h.val; omega

/-- The four matrices of a device. -/
def wOf (c : Dev nD) : Fin 4 → Vec Ideal S1x512x1024 .bf16 :=
  ![w1 m ρ c 0 inb_S4x512x1024_S1x512x1024_0_0_0, w1 m ρ c 1 inb_S4x512x1024_S1x512x1024_1_0_0,
    w1 m ρ c 2 inb_S4x512x1024_S1x512x1024_2_0_0, w1 m ρ c 3 inb_S4x512x1024_S1x512x1024_3_0_0]

/-- One of a device's four matrices, entry by entry. -/
theorem wOf_apply (c : Dev nD) (l : Fin 4) (q : Fin 512) (h : Fin 1024) : wOf m ρ c l (ix3 0 q h) = ws m ρ c (ix3 l q h) := by
  match l with
  | 0 => exact w1_apply m ρ c 0 inb_S4x512x1024_S1x512x1024_0_0_0 q h
  | 1 => exact w1_apply m ρ c 1 inb_S4x512x1024_S1x512x1024_1_0_0 q h
  | 2 => exact w1_apply m ρ c 2 inb_S4x512x1024_S1x512x1024_2_0_0 q h
  | 3 => exact w1_apply m ρ c 3 inb_S4x512x1024_S1x512x1024_3_0_0 q h

/-- On the device that holds a token's expert, the row at the token's slot is its row times the expert's matrix. -/
theorem own_eq (d : Dev nD) (he : Experts E (es m ρ d)) (i : Fin 1024) (hd : d = ownerOf (E i)) (hr : rank E i < 6) (o : Fin 32)
    (ho : o.val = 8 * (placeOf (E i)).val + rank E i) (h : Fin 1024) :
    (own m ρ d (ix2 o h) : EReal) = ∑ q : Fin 512, (xV m ρ d (ix2 i q) : EReal) * wV m ρ d (ix3 (placeOf (E i)) q h) := by
  refine (own_rows (rankV m ρ d) (slotV m ρ d) (modV m ρ d) k0_pay7 (xs m ρ d) (wOf m ρ d) (placeOf (E i)) (rank E i) (by omega) o ho h).trans ?_
  refine Finset.sum_congr rfl fun q _ => ?_
  rw [wOf_apply]
  refine congrArg (· * (wV m ρ d (ix3 (placeOf (E i)) q h) : EReal)) ?_
  refine gathered_eq E d _ _ _ (xs m ρ d) (selM_eq E m ρ d he) i hr o ?_ q
  subst hd
  rw [slot_owner]; exact ho

/-- The kernel's result at a token. -/
theorem out_eq (c : Dev nD) (he : ∀ d, Experts E (es m ρ d)) (i h : Fin 1024) :
    (outV m ρ c (ix2 i h) : EReal) = if rank E i < 6 then
      ∑ q : Fin 512, (xV m ρ (ownerOf (E i)) (ix2 i q) : EReal) * wV m ρ (ownerOf (E i)) (ix3 (placeOf (E i)) q h) else 0 := by
  have hp : (outV m ρ c (ix2 i h) : EReal) = ∑ g : Fin 1024, (selM m ρ c (ix2 g i) : EReal) * fullV m ρ c (ix2 g h) := by
    unfold outV fullV outAt k0_pay1
    generalize selM m ρ c = s
    generalize full m ρ c = y
    pointwise
  rw [hp]
  simp only [selM_eq E m ρ c (he c)]
  by_cases hr : rank E i < 6
  · rw [if_pos hr]
    refine (sum_ind (fun g : Fin 1024 => rank E i < 6 ∧ g.val = slot E c i) (fun g => fullV m ρ c (ix2 g h)) ⟨slot E c i, slot_lt E c i hr⟩
      (fun g => ⟨fun hg => Fin.ext hg.2, fun hg => ⟨hr, congrArg Fin.val hg⟩⟩)).trans ?_
    have h3 := (placeOf (E i)).isLt
    have hb : blkOf ⟨slot E c i, slot_lt E c i hr⟩ = flip c (ownerOf (E i)) := Fin.ext (by
      show slot E c i / 32 = _
      unfold slot; omega)
    have hf : flip c (blkOf ⟨slot E c i, slot_lt E c i hr⟩) = ownerOf (E i) := by rw [hb, flip_owner]
    refine own_eq E m ρ _ (he _) i hf hr (offOf ⟨slot E c i, slot_lt E c i hr⟩) ?_ h |>.trans ?_
    · show slot E c i % 32 = _
      unfold slot; omega
    · rw [hf]
  · rw [if_neg hr]
    exact sum_zero (fun g : Fin 1024 => rank E i < 6 ∧ g.val = slot E c i) _ (fun g hg => hr hg.1)

end Cert.MoE

end
-- ==== Proof.Results.lean ====
/-
What the kernel's run leaves in its arrays: the arguments as they were, the result of the body, and the frames.
-/
module

public import proofs.«01_k».proof.Proof.KernelValue

@[expose] public section

noncomputable section

namespace Cert.MoE

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The blocks are the whole arrays -/

/-- The tokens' window starts at the origin. -/
theorem start_0 : ∀ a : Fin 2, win0_0.index (0 : Fin 1) a * win0_0.size a = 0 := by decide +kernel
/-- The indices' window starts at the origin. -/
theorem start_1 : ∀ a : Fin 2, win0_1.index (0 : Fin 1) a * win0_1.size a = 0 := by decide +kernel
/-- The matrices' window starts at the origin. -/
theorem start_2 : ∀ a : Fin 3, win0_2.index (0 : Fin 1) a * win0_2.size a = 0 := by decide +kernel
/-- The result's window starts at the origin. -/
theorem start_3 : ∀ a : Fin 2, win0_3.index (0 : Fin 1) a * win0_3.size a = 0 := by decide +kernel

/-- The tokens that the body reads are the argument. -/
theorem xs_eq (c : Dev nD) : xs m ρ c = m ((c : Thread nD τ).loc main_arg0) :=
  funext fun i => congrArg (m ((c : Thread nD τ).loc main_arg0)) (funext fun a => Fin.ext (by
    show win0_0.index (0 : Fin 1) a * win0_0.size a + 1 * (i a).val = (i a).val
    rw [start_0 a]; omega))
/-- The indices that the body reads are the argument. -/
theorem es_eq (c : Dev nD) : es m ρ c = m ((c : Thread nD τ).loc main_arg2) :=
  funext fun i => congrArg (m ((c : Thread nD τ).loc main_arg2)) (funext fun a => Fin.ext (by
    show win0_1.index (0 : Fin 1) a * win0_1.size a + 1 * (i a).val = (i a).val
    rw [start_1 a]; omega))
/-- The matrices that the body reads are the argument. -/
theorem ws_eq (c : Dev nD) : ws m ρ c = m ((c : Thread nD τ).loc main_arg3) :=
  funext fun i => congrArg (m ((c : Thread nD τ).loc main_arg3)) (funext fun a => Fin.ext (by
    show win0_2.index (0 : Fin 1) a * win0_2.size a + 1 * (i a).val = (i a).val
    rw [start_2 a]; omega))

/-- The result's window is the whole result. -/
theorem emb_3 (i : S1024x1024.Idx) : (win0_3.blk (0 : Fin 1)).view.emb i = i :=
  funext fun a => Fin.ext (by
    show win0_3.index (0 : Fin 1) a * win0_3.size a + 1 * (i a).val = (i a).val
    rw [start_3 a]; omega)

/-! ## The arrays at the end -/

/-- The tokens end as they were. -/
theorem finalA_0 (c : Dev nD) : finalA m ρ c 0 = m ((c : Thread nD τ).loc main_arg0) := (dats (F := F) m ρ 0 c).arrAt_in 0 rfl _
/-- The indices end as they were. -/
theorem finalA_1 (c : Dev nD) : finalA m ρ c 1 = m ((c : Thread nD τ).loc main_arg2) := (dats (F := F) m ρ 0 c).arrAt_in 1 rfl _
/-- The matrices end as they were. -/
theorem finalA_2 (c : Dev nD) : finalA m ρ c 2 = m ((c : Thread nD τ).loc main_arg3) := (dats (F := F) m ρ 0 c).arrAt_in 2 rfl _

/-- The result ends as the body leaves it. -/
theorem finalA_3 (c : Dev nD) : finalA m ρ c 3 = outAt m ρ c := by
  refine (dats (F := F) m ρ 0 c).arrAt_eq_of_cover 3 (outAt m ρ c) (fun t _ => ?_) (fun i => ⟨t0_0, flush0_3 _, ?_⟩)
  · obtain rfl : t = t0_0 := Subsingleton.elim (α := Fin 1) _ _
    have ha : (dats (F := F) m ρ 0 c).after 3 t0_0 = outAt m ρ c := by dsimp only [dats]
    unfold Pipeline.Dat.flushed
    rw [ha]
    generalize outAt m ρ c = X
    funext i
    refine congrArg X (funext fun a => Fin.ext ?_)
    show (i a).val = win0_3.index (0 : Fin 1) a * win0_3.size a + 1 * (i a).val
    rw [start_3 a]; omega
  · exact Finset.mem_map.mpr ⟨i, Finset.mem_univ _, emb_3 i⟩

/-- Every run of the kernel: its result, its arguments, and its semaphores. -/
theorem run_all : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨((h.1 c).1 3).trans (finalA_3 m ρ c), ((h.1 c).1 0).trans (finalA_0 m ρ c), (h.1 c).2,
    ((h.1 c).1 1).trans (finalA_1 m ρ c), ((h.1 c).1 2).trans (finalA_2 m ρ c)⟩, h.2⟩) (run_main m ρ)

end Cert.MoE

end
-- ==== Proof.RefRun.lean ====
/-
The reference's run: what its loop leaves, and the result as a term of the arguments.
-/
module

public import proofs.«01_k».proof.Proof.Gen.ReferenceIdeal.Run
public import Idealize.ShloMosaic.Lib.Pointwise.Index
public import Idealize.ShloMosaic.Lib.DynamicIndex
public import Idealize.ShloMosaic.Lib.Routing.OpsOne

@[expose] public section

noncomputable section

namespace Cert.MoE.Ref

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]

variable (m : (ℓ : Loc nD τ sig) → Buf (Elt F) ℓ) (ρ : Dev nD → PrngReg)

/-- The contents when the loop has ended. -/
abbrev exitW (c : Dev nD) : Valuation τ sig (Elt F) := after condOps (atK m 1024 c)

/-- A buffer that neither the condition nor the body writes. -/
abbrev loopKeeps (r : Ref sig .tc) : Prop :=
  r ∉ condOps_W ∧ r ∉ while0Ops0_W ∧ r ∉ while0Ops0_1_W ∧ r ∉ while0Ops0_2_W ∧ r ∉ while0Ops0_3_W

/-- The loop leaves such a buffer as it found it, before every trip. -/
theorem atK_keep (r : Ref sig .tc) (h : loopKeeps r) (c : Dev nD) :
    ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_3 _ while0Ops0_3_writes h.2.2.2.2, after_of_writes_sub while0Ops0_2 _ while0Ops0_2_writes h.2.2.2.1,
      after_of_writes_sub while0Ops0_1 _ while0Ops0_1_writes h.2.2.1, after_of_writes_sub while0Ops0 _ while0Ops0_writes h.2.1,
      after_of_writes_sub condOps _ condOps_writes h.1, atK_keep r h c k]
    rfl

/-- What the loop does not carry is after it as before it. -/
theorem exitW_keep (r : Ref sig .tc) (h : loopKeeps r) (c : Dev nD) :
    exitW m c (Proc.devRef .tc r) = entryContents preI m c (Proc.devRef .tc r) :=
  (after_of_writes_sub condOps _ condOps_writes h.1).trans (atK_keep m r h c 1024)

/-- The token's experts as the loop reads them: the index array as one row. -/
def experts (c : Dev nD) : IVec S1024 32 := shapeCast S1024 (m ((c : Thread nD τ).loc main_arg2)) shapeCasts_S1024x1_S1024

/-- The tokens when the loop starts. -/
theorem entry_arg0 (c : Dev nD) : entryContents preI m c (Proc.devRef .tc main_arg0) = m ((c : Thread nD τ).loc main_arg0) :=
  after_of_writes_sub hostOps0 _ hostOps0_writes (by decide)
/-- The router's weights when the loop starts. -/
theorem entry_arg1 (c : Dev nD) : entryContents preI m c (Proc.devRef .tc main_arg1) = m ((c : Thread nD τ).loc main_arg1) :=
  after_of_writes_sub hostOps0 _ hostOps0_writes (by decide)
/-- The routing indices when the loop starts. -/
theorem entry_arg2 (c : Dev nD) : entryContents preI m c (Proc.devRef .tc main_arg2) = m ((c : Thread nD τ).loc main_arg2) :=
  after_of_writes_sub hostOps0 _ hostOps0_writes (by decide)
/-- The experts' matrices when the loop starts. -/
theorem entry_arg3 (c : Dev nD) : entryContents preI m c (Proc.devRef .tc main_arg3) = m ((c : Thread nD τ).loc main_arg3) :=
  after_of_writes_sub hostOps0 _ hostOps0_writes (by decide)
/-- The flattened indices when the loop starts. -/
theorem entry_v0 (c : Dev nD) : entryContents preI m c (Proc.devRef .tc main_v0) = experts m c := by
  simp only [entryContents, afterL_cons, afterL_nil]
  after_results
  rfl
/-- The loop's copy of the indices when it starts. -/
theorem entry_v3_0 (c : Dev nD) : entryContents preI m c (Proc.devRef .tc main_v3_0) = experts m c := by
  simp only [entryContents, afterL_cons, afterL_nil]
  after_results
  rfl
/-- The loop's counter starts at zero. -/
theorem entry_v3_1 (c : Dev nD) : entryContents preI m c (Proc.devRef .tc main_v3_1) = fun _ => (0#32 : BitVec 32) := ctr_entry m c
/-- The loop's counts start at zero. -/
theorem entry_v3_2 (c : Dev nD) : entryContents preI m c (Proc.devRef .tc main_v3_2) = fun _ => (0#32 : BitVec 32) := by
  simp only [entryContents, afterL_cons, afterL_nil]
  after_results
  rfl
/-- The loop's flags start unset. -/
theorem entry_v3_3 (c : Dev nD) : entryContents preI m c (Proc.devRef .tc main_v3_3) = fun _ => (0#1 : BitVec 1) := by
  simp only [entryContents, afterL_cons, afterL_nil]
  after_results
  rfl

/-- The result, of the arrays, the experts and the flags the loop leaves. -/
def result (x : FVec F S1024x512 .bf16) (w : FVec F S128x512x1024 .bf16) (e : IVec S1024 32) (kept : IVec S1024 1) : FVec F S1024x1024 .f32 :=
  select (broadcastInDim S1024x1024 ![0, 1] bcast_S1024x1_S1024x1024_0_1 (broadcastInDim S1024x1 ![0] bcast_S1024_S1024x1_0 kept))
    (Host.dotGeneral dot_S1024x512_S1024x512x1024_S1024x1024_1_1_n_2_0_0 none (extf .f32 x bitsLt_bf16_f32)
      (Host.gather gather_S128x512x1024_S1024x1_S1024x512x1024_12_0_n_n_0_1_15121024 (extf .f32 w bitsLt_bf16_f32)
        (broadcastInDim S1024x1 ![0] bcast_S1024_S1024x1_0
          (select (cmpi .slt e (broadcastInDim S1024 ![] bcast_S_S1024 (constantI S_ 32 0#32)))
            (addi e (broadcastInDim S1024 ![] bcast_S_S1024 (constantI S_ 32 128#32))) e))))
    (broadcastInDim S1024x1024 ![] bcast_S_S1024x1024 (constant S_ .f32 0x00000000#32))

set_option maxRecDepth 8192 in
/-- What the operations after the loop compute. -/
theorem post_v15 (V : Valuation τ sig (Elt F)) : afterL postI V (Proc.devRef .tc main_v15)
    = result (V (Proc.devRef .tc main_arg0)) (V (Proc.devRef .tc main_arg3)) (V (Proc.devRef .tc main_v0)) (V (Proc.devRef .tc main_v3_3)) := by
  simp only [afterL_cons, afterL_nil]
  after_results
  rfl

end Cert.MoE.Ref

end
-- ==== Proof.RefValue.lean ====
/-
What the reference's loop computes: after `k` trips the counts are how many of the first `k` tokens each expert
took, no more than six, and the flags say which of those tokens were taken.
-/
module

public import proofs.«01_k».proof.Proof.RefRun
public import proofs.«01_k».proof.Proof.Rank
public import Idealize.ShloMosaic.Lib.Routing.OpsOrder
public import Idealize.ShloMosaic.Lib.Pointwise

@[expose] public section

noncomputable section

namespace Cert.MoE.Ref

open Idealize.ShloMosaic Idealize.ShloMosaic.TcCoe Idealize.ShloMosaic.StableHlo
open Cert.ReferenceIdeal Cert.ReferenceIdeal.Gen Cert.ReferenceIdeal.Value

open Idealize.ShloMosaic.Routing

variable {F : FTy → Type} [FloatOps F]

variable (E : Fin 1024 → Fin 128)

/-- The words of the experts. -/
abbrev IsExperts (e : IVec S1024 32) : Prop := ∀ j : Fin 1024, e (ix1 j) = BitVec.ofNat 32 (E j).val

/-- Which tokens are taken. -/
def keptW (k : ℕ) : IVec S1024 1 := fun i => if (i 0).val < k ∧ rank E (i 0) < 6 then 1#1 else 0#1
/-- How many tokens each expert has taken. -/
def takenW (k : ℕ) : IVec S128 32 := fun i => BitVec.ofNat 32 (min 6 (upTo E k (i 0)))

/-- Before the first token no flag is set. -/
theorem keptW_zero : keptW E 0 = fun _ => 0#1 := funext fun i => if_neg (by omega)
/-- Before the first token every count is zero. -/
theorem takenW_zero : takenW E 0 = fun _ => 0#32 := funext fun i => by
  show BitVec.ofNat 32 (min 6 (upTo E 0 (i 0))) = 0#32
  have h : ∀ e : Fin 128, BitVec.ofNat 32 (min 6 (upTo E 0 e)) = 0#32 := fun e => by rw [upTo_zero]; rfl
  exact h (i 0)

/-- What the loop carries before trip `k`. -/
def Inv (k : ℕ) (V : Valuation τ sig (Elt F)) : Prop :=
  IsExperts E (V (Proc.devRef .tc main_v3_0)) ∧ V (Proc.devRef .tc main_v3_1) = (fun _ => BitVec.ofNat 32 k : IVec S_ 32)
    ∧ V (Proc.devRef .tc main_v3_2) = takenW E k ∧ V (Proc.devRef .tc main_v3_3) = keptW E k

/-- Reading one element of a row of words at the number `k`. -/
theorem slice_one {n : ℕ} (hn : n < 2 ^ 31) (v : IVec ⟨1, ![n]⟩ 32) (k : Fin n) (start : Fin 1 → Int) (hs : start 0 = (k.val : Int))
    (h : (⟨1, ![n]⟩ : Shape).Slices (fun _ => 0) S1) (hc : S1.ShapeCasts S_) :
    shapeCast S_ (Host.dynamicSlice S1 v start h) hc = fun _ => v (ix1 k) := by
  funext j
  show Host.dynamicSlice S1 v start h (Shape.reshapeEquiv hc j) = v (ix1 k)
  generalize Shape.reshapeEquiv hc j = i
  rw [Host.dynamicSlice_apply]
  refine congrArg v (funext fun a => ?_)
  match a with
  | ⟨0, _⟩ =>
    apply Fin.ext
    show Host.clampedStart _ _ h.1 start 0 + (i 0).val = k.val
    have h0 : (i 0).val = 0 := Nat.lt_one_iff.1 (i 0).isLt
    rw [h0, Host.clampedStart_of_le h.1 start 0 k.val hs (by have := k.isLt; show k.val + 1 ≤ n; omega)]
    rfl

/-- An update of one element at the number `k`. -/
theorem update_one {n : ℕ} {α : Type} (v : (⟨1, ![n]⟩ : Shape).Idx → α) (u : S1.Idx → α) (a : α) (hu : ∀ i, u i = a) (k : Fin n)
    (start : Fin 1 → Int) (hs : start 0 = (k.val : Int)) (h : (⟨1, ![n]⟩ : Shape).Slices (fun _ => 0) S1) (i : (⟨1, ![n]⟩ : Shape).Idx) :
    Host.dynamicUpdateSlice v u start h i = if (i 0).val = k.val then a else v i := by
  have hc : Host.clampedStart _ _ h.1 start 0 = k.val :=
    Host.clampedStart_of_le h.1 start 0 k.val hs (by have := k.isLt; show k.val + 1 ≤ n; omega)
  rw [Host.dynamicUpdateSlice_apply]
  by_cases hi : (i 0).val = k.val
  · rw [if_pos hi, dif_pos, hu]
    intro b
    match b with
    | ⟨0, _⟩ =>
      show Host.clampedStart _ _ h.1 start 0 ≤ (i 0).val ∧ (i 0).val < Host.clampedStart _ _ h.1 start 0 + 1
      rw [hc, hi]; omega
  · rw [if_neg hi, dif_neg]
    intro hb
    have h1 : Host.clampedStart _ _ h.1 start 0 ≤ (i 0).val ∧ (i 0).val < Host.clampedStart _ _ h.1 start 0 + 1 := hb 0
    rw [hc] at h1
    omega

/-- Adding one word at the number `k` of a row. -/
theorem scatter_add_one {n : ℕ} (d : ScatterDims ⟨1, ![n]⟩ S1 S_) (hiw : d.insertedWindowDims = [0]) (hsd : d.scatterDimsToOperandDims = [0])
    (x0 : IVec ⟨1, ![n]⟩ 32) (idx : IVec S1 32) (upd : IVec S_ 32) (k : Fin n) (hidx : (idx (ix1 0)).toInt = (k.val : Int)) (e : Fin n) :
    Host.scatter d IntOp.addi x0 idx upd (ix1 e) = if e = k then IntOp.addi (x0 (ix1 e)) (upd ix0) else x0 (ix1 e) := by
  rw [show Host.scatter d IntOp.addi x0 idx upd = scatterIn (List.finRange S_.numel) d IntOp.addi x0 idx upd from rfl, scatterIn_at]
  have hl : d.resultIdx? ix0 idx = some (ix1 e) ↔ e = k := lands_one d hiw hsd idx k hidx e
  simp only [show ∀ n, (S_ : Shape).rowMajor.symm n = ix0 from fun n => funext fun a => a.elim0]
  obtain ⟨z, hz⟩ := List.length_eq_one_iff.1 ((List.length_finRange (n := S_.numel)).trans (by decide))
  rw [hz, List.foldl_cons, List.foldl_nil]
  by_cases h : e = k
  · rw [if_pos h, if_pos (hl.2 h)]
  · rw [if_neg h, if_neg (fun q => h (hl.1 q))]

set_option maxRecDepth 8192 in
/-- The expert that one pass of the loop reads. -/
theorem v16_eq {k : Fin 1024} {V : Valuation τ sig (Elt F)} (h : Inv E k.val V) :
    res_main_while0b_v16 V = fun _ => BitVec.ofNat 32 (E k).val := by
  obtain ⟨h0, h1, h2, h3⟩ := h
  unfold res_main_while0b_v16
  refine (slice_one (by norm_num) _ k _ ?_ _ _).trans (funext fun _ => h0 k)
  rw [h1]
  exact toInt_ofNat_of_lt (by have := k.isLt; omega)

set_option maxRecDepth 8192 in
/-- The flag that one pass of the loop computes: whether the rank is below six. -/
theorem v22_eq {k : Fin 1024} {V : Valuation τ sig (Elt F)} (h : Inv E k.val V) :
    res_main_while0b_v22 V = fun _ => if rank E k < 6 then 1#1 else 0#1 := by
  have h16 := v16_eq E h
  obtain ⟨h0, h1, h2, h3⟩ := h
  unfold res_main_while0b_v22
  rw [h16, h2]
  refine (congrArg (fun v => cmpi .slt v (constantI S_ 32 6#32)) (slice_one (by norm_num) (takenW E k.val) (E k) _
    (toInt_wrap_ofNat _ (by have := (E k).isLt; omega)) _ _)).trans ?_
  funext j
  show BitVec.ofBool ((BitVec.ofNat 32 (min 6 (upTo E k.val (E k)))).slt 6#32) = if upTo E k.val (E k) < 6 then 1#1 else 0#1
  rw [BitVec.slt, toInt_ofNat_of_lt (by omega), show (6#32 : BitVec 32).toInt = 6 from rfl]
  by_cases hr : upTo E k.val (E k) < 6
  · rw [if_pos hr, decide_eq_true (by omega)]; rfl
  · rw [if_neg hr, decide_eq_false (by omega)]; rfl

set_option maxRecDepth 8192 in
/-- One trip of the loop. -/
theorem step_inv {k : Fin 1024} {V : Valuation τ sig (Elt F)} (h : Inv E k.val V) : Inv E (k.val + 1) (STEP V) := by
  have h16 := v16_eq E h
  have h22 := v22_eq E h
  obtain ⟨h0, h1, h2, h3⟩ := h
  refine ⟨?_, ?_, ?_, ?_⟩
  · rw [STEP_main_v3_0]; exact h0
  · rw [STEP_main_v3_1]
    unfold step_main_v3_1
    rw [h1]
    funext j
    show BitVec.ofNat 32 k.val + 1#32 = _
    rw [BitVec.ofNat_add]
  · rw [STEP_main_v3_2]
    unfold step_main_v3_2
    rw [h16, h22, h2]
    funext j
    obtain ⟨e, rfl⟩ : ∃ e : Fin 128, j = ix1 e := ⟨j 0, by funext a; match a with | ⟨0, _⟩ => rfl⟩
    refine (scatter_add_one _ rfl rfl (takenW E k.val) _ _ (E k) (toInt_wrap_ofNat _ (by have := (E k).isLt; omega)) e).trans ?_
    show (if e = E k then BitVec.ofNat 32 (min 6 (upTo E k.val e)) + BitVec.setWidth 32 (if rank E k < 6 then 1#1 else 0#1)
      else BitVec.ofNat 32 (min 6 (upTo E k.val e))) = BitVec.ofNat 32 (min 6 (upTo E (k.val + 1) e))
    rw [upTo_succ]
    by_cases he : e = E k
    · rw [if_pos he, if_pos he, he]
      by_cases hr : rank E k < 6
      · rw [if_pos hr, show BitVec.setWidth 32 1#1 = BitVec.ofNat 32 1 from rfl, ← BitVec.ofNat_add]
        unfold rank at hr
        congr 1; omega
      · rw [if_neg hr, show BitVec.setWidth 32 0#1 = BitVec.ofNat 32 0 from rfl, ← BitVec.ofNat_add]
        unfold rank at hr
        congr 1; omega
    · rw [if_neg he, if_neg he, Nat.add_zero]
  · rw [STEP_main_v3_3]
    unfold step_main_v3_3
    rw [h22, h3, h1]
    funext i
    refine (update_one (keptW E k.val) _ (if rank E k < 6 then 1#1 else 0#1) (fun _ => rfl) k _
      (toInt_ofNat_of_lt (by have := k.isLt; omega)) _ i).trans ?_
    unfold keptW
    by_cases hi : (i 0).val = k.val
    · have hik : i 0 = k := Fin.ext hi
      rw [if_pos hi, hik]
      by_cases hr : rank E k < 6
      · rw [if_pos hr, if_pos ⟨by omega, hr⟩]
      · rw [if_neg hr, if_neg fun q => hr q.2]
    · rw [if_neg hi]
      by_cases hr : (i 0).val < k.val ∧ rank E (i 0) < 6
      · rw [if_pos hr, if_pos ⟨by omega, hr.2⟩]
      · rw [if_neg hr, if_neg fun q => hr ⟨by omega, q.2⟩]

variable (m : (ℓ : Loc nD τ sig) → Buf (Elt F) ℓ)

/-- The invariant holds after any number of passes. -/
theorem iter_inv (c : Dev nD) (he : IsExperts E (experts m c)) :
    ∀ k, k ≤ 1024 → Inv E k (STEP^[k] (entryContents preI m c))
  | 0, _ => by
    refine ⟨?_, entry_v3_1 m c, ?_, ?_⟩
    · exact fun j => (congrFun (entry_v3_0 m c) (ix1 j)).trans (he j)
    · exact (entry_v3_2 m c).trans (takenW_zero E).symm
    · exact (entry_v3_3 m c).trans (keptW_zero E).symm
  | k + 1, hk => by
    rw [Function.iterate_succ_apply']
    exact step_inv E (k := ⟨k, hk⟩) (iter_inv c he k (by omega))

/-- The flags when the loop has ended: a token is taken when its rank is under six. -/
theorem exit_kept (c : Dev nD) (he : IsExperts E (experts m c)) :
    exitW m c (Proc.devRef .tc main_v3_3) = fun i : S1024.Idx => if rank E (i 0) < 6 then 1#1 else 0#1 := by
  refine (after_of_writes_sub condOps _ condOps_writes (by decide)).trans ?_
  rw [atK_agree m c 1024 main_v3_3 (by decide), (iter_inv E m c he 1024 le_rfl).2.2.2]
  funext i
  unfold keptW
  by_cases hr : rank E (i 0) < 6
  · rw [if_pos hr, if_pos ⟨(i 0).isLt, hr⟩]
  · rw [if_neg hr, if_neg fun q => hr q.2]

end Cert.MoE.Ref

end
-- ==== Proof.RefClosed.lean ====
/-
The reference's result in closed form: a token whose rank is under six gets its row times its expert's weights,
every other token zero.
-/
module

public import proofs.«01_k».proof.Proof.RefValue

@[expose] public section

noncomputable section

namespace Cert.MoE.Ref

open Idealize.ShloMosaic Idealize.ShloMosaic.TcCoe Idealize.ShloMosaic.StableHlo
open Cert.ReferenceIdeal Cert.ReferenceIdeal.Gen Cert.ReferenceIdeal.Value

/-- The gather of the experts' weights. -/
abbrev gd : GatherDims S128x512x1024 S1024x1 S1024x512x1024 := gather_S128x512x1024_S1024x1_S1024x512x1024_12_0_n_n_0_1_15121024

/-- Where the index is a token's expert, the gathered block is that expert's. -/
theorem gather_eq (E : Fin 1024 → Fin 128) {α : Type} (w : S128x512x1024.Idx → α) (e : IVec S1024x1 32) (he : ∀ j, e (ix2 j 0) = BitVec.ofNat 32 (E j).val) (i : Fin 1024) (d : Fin 512) (h : Fin 1024) :
    Host.gather gd w e (ix3 i d h) = w (ix3 (E i) d h) := by
  unfold Host.gather
  refine congrArg w (funext fun a => Fin.ext ?_)
  match a with
  | ⟨0, _⟩ =>
    have hk : (0 : Fin 3) ∉ gd.sKept := by decide
    show gd.start (ix3 i d h) e 0 + gd.batchCoord (ix3 i d h) 0 + gd.offCoord (ix3 i d h) 0 = (E i).val
    rw [gd.batchCoord_eq_zero _ _ (by decide), gd.offCoord_eq_zero _ _ hk]
    have hm : (0 : Fin 3) ∈ gd.startIndexMap := by decide
    unfold GatherDims.start
    rw [dif_pos hm]
    have hsi : gd.siIdx (ix3 i d h) ⟨gd.startIndexMap.idxOf 0, List.idxOf_lt_length_iff.2 hm⟩ = ix2 i (0 : Fin 1) := by
      funext b'
      match b' with
      | ⟨0, _⟩ => rfl
      | ⟨1, _⟩ => rfl
    have hbl := (E i).isLt
    rw [hsi, he, toInt_ofNat_of_lt (by omega)]
    show min ((((E i).val : Int)).toNat) (128 - 1) + 0 + 0 = (E i).val
    omega
  | ⟨1, _⟩ =>
    show gd.start (ix3 i d h) e 1 + gd.batchCoord (ix3 i d h) 1 + gd.offCoord (ix3 i d h) 1 = d.val
    rw [show gd.start (ix3 i d h) e 1 = 0 from rfl, show gd.batchCoord (ix3 i d h) 1 = 0 from rfl, show gd.offCoord (ix3 i d h) 1 = d.val from rfl]
    omega
  | ⟨2, _⟩ =>
    show gd.start (ix3 i d h) e 2 + gd.batchCoord (ix3 i d h) 2 + gd.offCoord (ix3 i d h) 2 = h.val
    rw [show gd.start (ix3 i d h) e 2 = 0 from rfl, show gd.batchCoord (ix3 i d h) 2 = 0 from rfl, show gd.offCoord (ix3 i d h) 2 = h.val from rfl]
    omega

/-- A row stood up as a column. -/
theorem column_apply {α : Type} (v : S1024.Idx → α) (j : Fin 1024) :
    broadcastInDim S1024x1 ![0] bcast_S1024_S1024x1_0 v (ix2 j 0) = v (ix1 j) := by
  pointwise

/-- The reference's closed form. -/
def moe (E : Fin 1024 → Fin 128) (x : FVec Ideal S1024x512 .bf16) (w : FVec Ideal S128x512x1024 .bf16) (i : Fin 1024) (h : Fin 1024) : EReal :=
  if rank E i < 6 then (∑ d : Fin 512, (x (ix2 i d) : EReal) * w (ix3 (E i) d h)) else 0

/-- The result's entries, where the flags are the loop's. -/
theorem result_eq (E : Fin 1024 → Fin 128) (x : FVec Ideal S1024x512 .bf16) (w : FVec Ideal S128x512x1024 .bf16) (e : IVec S1024 32) (he : IsExperts E e) (p h : Fin 1024) :
    result x w e (fun i : S1024.Idx => if rank E (i 0) < 6 then 1#1 else 0#1) (ix2 p h) = moe E x w p h := by
  unfold result
  generalize hg : Host.gather gather_S128x512x1024_S1024x1_S1024x512x1024_12_0_n_n_0_1_15121024 _ _ = g
  have hgv : ∀ (i : Fin 1024) (d : Fin 512) (h : Fin 1024), g (ix3 i d h) = w (ix3 (E i) d h) := by
    intro i d h
    rw [← hg]
    refine (gather_eq E _ _ (fun j => ?_) i d h).trans rfl
    refine (column_apply _ j).trans ?_
    exact (select_slt_zero_of_nonneg _ _ _ _ (by rw [he j, toInt_ofNat_of_lt (by have := (E j).isLt; omega)]; omega)).trans (he j)
  pointwise
  simp only [hgv]
  unfold moe
  by_cases hr : rank E p < 6
  · rw [if_pos hr, if_pos hr]; rfl
  · rw [if_neg hr, if_neg hr]; rfl

end Cert.MoE.Ref

end
-- ==== Proof.RefFrame.lean ====
/-
Every run of the reference: its result, its arguments, and its semaphores (it has none).
-/
module

public import proofs.«01_k».proof.Proof.RefClosed

@[expose] public section

noncomputable section

namespace Cert.MoE.Ref

open Idealize.ShloMosaic Idealize.ShloMosaic.TcCoe Idealize.ShloMosaic.StableHlo
open Idealize.SL.Sem
open Cert.ReferenceIdeal Cert.ReferenceIdeal.Gen Cert.ReferenceIdeal.Value

variable {F : FTy → Type} [FloatOps F]

variable (m : (ℓ : Loc nD τ sig) → Buf (Elt F) ℓ) (ρ : Dev nD → PrngReg)

/-- The operations after the loop write no argument. -/
theorem post_arg0 (V : Valuation τ sig (Elt F)) : afterL postI V (Proc.devRef .tc main_arg0) = V (Proc.devRef .tc main_arg0) := by
  simp only [afterL_cons, afterL_nil]
  after_results

/-- They leave the router's weights. -/
theorem post_arg1 (V : Valuation τ sig (Elt F)) : afterL postI V (Proc.devRef .tc main_arg1) = V (Proc.devRef .tc main_arg1) := by
  simp only [afterL_cons, afterL_nil]
  after_results

/-- They leave the routing indices. -/
theorem post_arg2 (V : Valuation τ sig (Elt F)) : afterL postI V (Proc.devRef .tc main_arg2) = V (Proc.devRef .tc main_arg2) := by
  simp only [afterL_cons, afterL_nil]
  after_results

/-- They leave the experts' matrices. -/
theorem post_arg3 (V : Valuation τ sig (Elt F)) : afterL postI V (Proc.devRef .tc main_arg3) = V (Proc.devRef .tc main_arg3) := by
  simp only [afterL_cons, afterL_nil]
  after_results

/-- Argument 0 ends as it was. -/
theorem final_arg0 (c : Dev nD) : finalContents condOps preI bodyI postI 1024 m c (Proc.devRef .tc main_arg0) = m ((c : Thread nD τ).loc main_arg0) :=
  (post_arg0 (exitW m c)).trans ((exitW_keep m main_arg0 (by decide) c).trans (entry_arg0 m c))

/-- Argument 1 ends as it was. -/
theorem final_arg1 (c : Dev nD) : finalContents condOps preI bodyI postI 1024 m c (Proc.devRef .tc main_arg1) = m ((c : Thread nD τ).loc main_arg1) :=
  (post_arg1 (exitW m c)).trans ((exitW_keep m main_arg1 (by decide) c).trans (entry_arg1 m c))

/-- Argument 2 ends as it was. -/
theorem final_arg2 (c : Dev nD) : finalContents condOps preI bodyI postI 1024 m c (Proc.devRef .tc main_arg2) = m ((c : Thread nD τ).loc main_arg2) :=
  (post_arg2 (exitW m c)).trans ((exitW_keep m main_arg2 (by decide) c).trans (entry_arg2 m c))

/-- Argument 3 ends as it was. -/
theorem final_arg3 (c : Dev nD) : finalContents condOps preI bodyI postI 1024 m c (Proc.devRef .tc main_arg3) = m ((c : Thread nD τ).loc main_arg3) :=
  (post_arg3 (exitW m c)).trans ((exitW_keep m main_arg3 (by decide) c).trans (entry_arg3 m c))

/-- The result's final contents, where the indices name experts. -/
theorem final_v15 (E : Fin 1024 → Fin 128) (c : Dev nD) (he : IsExperts E (experts m c)) :
    finalContents condOps preI bodyI postI 1024 m c (Proc.devRef .tc main_v15)
      = result (m ((c : Thread nD τ).loc main_arg0)) (m ((c : Thread nD τ).loc main_arg3)) (experts m c)
          (fun i : S1024.Idx => if rank E (i 0) < 6 then 1#1 else 0#1) := by
  show afterL postI (exitW m c) (Proc.devRef .tc main_v15) = _
  rw [post_v15, exit_kept E m c he, exitW_keep m main_arg0 (by decide) c, exitW_keep m main_arg3 (by decide) c,
    exitW_keep m main_v0 (by decide) c, entry_arg0, entry_arg3, entry_v0]

/-- The reference has no semaphores. -/
theorem sem_zero (f : GSem nD τ sig → ℤ) : f = fun _ => 0 := by
  funext g
  rcases g with ⟨t, q | q⟩
  · exact q.elim0
  · exact q.elim0

/-- From any memory: the arguments end unchanged. -/
theorem run_args : θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run _ _ _).mono (fun r h => ⟨fun c => ⟨(h c main_arg0 (by decide)).trans (final_arg0 m c), (h c main_arg1 (by decide)).trans (final_arg1 m c),
    (h c main_arg2 (by decide)).trans (final_arg2 m c), (h c main_arg3 (by decide)).trans (final_arg3 m c)⟩, sem_zero r.2.sem⟩) (run_fold m ρ)

/-- Where the indices name experts, the result too. -/
theorem run_vals (E : Fin 1024 → Fin 128) (he : ∀ c, IsExperts E (experts m c)) :
    θ_run (defs (F := F)) (onTc (τ := τ) (main (F := F))) ⟨m, fun _ => 0, ρ⟩ (fun r => ∀ c : Dev nD,
      r.2.mem ((c : Thread nD τ).loc main_v15) = result (m ((c : Thread nD τ).loc main_arg0)) (m ((c : Thread nD τ).loc main_arg3)) (experts m c)
          (fun i : S1024.Idx => if rank E (i 0) < 6 then 1#1 else 0#1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun r h c => ⟨(h c main_v15 (by decide)).trans (final_v15 m E c (he c)), (h c main_arg0 (by decide)).trans (final_arg0 m c),
    (h c main_arg1 (by decide)).trans (final_arg1 m c), (h c main_arg2 (by decide)).trans (final_arg2 m c),
    (h c main_arg3 (by decide)).trans (final_arg3 m c)⟩) (run_fold m ρ)

end Cert.MoE.Ref

end
-- ==== Proof.Agree.lean ====
/-
The two programs' results agree where every routing index names an expert.
-/
module

public import proofs.«01_k».proof.Defs
public import proofs.«01_k».proof.Proof.KernelValue
public import proofs.«01_k».proof.Proof.Results
public import proofs.«01_k».proof.Proof.RefFrame
public import proofs.«01_k».proof.Proof.Gen.Pre_in_range_KernelIdeal
public import Idealize.ShloMosaic.Lib.ReduceAll
public import Idealize.ShloMosaic.Lib.Layout

@[expose] public section

noncomputable section

namespace Cert.MoE

open Cert.KernelIdeal Cert.KernelIdeal.Gen
open Idealize.ShloMosaic Idealize.ShloMosaic.TcCoe

/-! ## The routing indices -/

/-- A word that is at least 0 and below 128, as signed numbers, is one of the first 128 words. -/
theorem word_lt (b : BitVec 32) (h : IntOp.andi (IntOp.cmpi .sge b 0#32) (IntOp.cmpi .slt b 128#32) = 1#1) : b.toNat < 128 := by
  have h0 : IntOp.cmpi .sge b 0#32 = 1#1 ∧ IntOp.cmpi .slt b 128#32 = 1#1 := by
    revert h
    generalize IntOp.cmpi .sge b 0#32 = p
    generalize IntOp.cmpi .slt b 128#32 = q
    revert p q; decide
  have hs : (0#32).sle b = true := by
    have : BitVec.ofBool ((0#32).sle b) = 1#1 := h0.1
    revert this
    generalize (0#32).sle b = p
    revert p; decide
  have hl : b.slt 128#32 = true := by
    have : BitVec.ofBool (b.slt 128#32) = 1#1 := h0.2
    revert this
    generalize b.slt 128#32 = p
    revert p; decide
  rw [BitVec.sle_eq_decide, decide_eq_true_eq] at hs
  rw [BitVec.slt_eq_decide, decide_eq_true_eq] at hl
  have e0 : (0#32).toInt = 0 := by decide
  have e1 : (128#32).toInt = 128 := by decide
  rw [e0] at hs; rw [e1] at hl
  rw [BitVec.toInt_eq_toNat_cond] at hs hl
  have := b.isLt
  split at hs <;> omega

/-- Where the condition holds, the indices name experts. -/
theorem experts_of_pre (x : FVec Ideal S1024x512 .bf16) (r : FVec Ideal S512x128 .bf16) (e : IVec S1024x1 32) (w : FVec Ideal S4x512x1024 .bf16)
    (h : Cert.Pre_in_range_KernelIdeal.fn (F := Ideal) x r e w = fun _ => 1#1) : ∃ E : Fin 1024 → Fin 128, Experts E e := by
  have hall : ∀ i : S1024x1.Idx, (e i).toNat < 128 := fun i => word_lt (e i) (by
    have hj := congrFun h (fun a => a.elim0)
    unfold Cert.Pre_in_range_KernelIdeal.fn at hj
    haveI : Subsingleton (Cert.Pre_in_range_KernelIdeal.S_).Idx := ⟨fun a b => funext fun k => k.elim0⟩
    exact Host.reduce_andi_all _ _ _ _ _ hj i)
  exact ⟨fun j => ⟨(e (ix2 j 0)).toNat, hall _⟩, fun j => (BitVec.eq_of_toNat_eq (by rw [BitVec.toNat_ofNat, Nat.mod_eq_of_lt (e (ix2 j 0)).isLt]))⟩

/-! ## The matrices -/

/-- Expert `e`'s matrix is the one its owner holds at its place. -/
theorem block_at (w : FVec Ideal Cert.ReferenceIdeal.S128x512x1024 .bf16) (e : Fin 128) (q : Fin 512) (h : Fin 1024) :
    Layout.block ⟨3, ![4, 512, 1024]⟩ ⟨3, ![128, 512, 1024]⟩ 0 32 (ownerOf e) w (by decide) (ix3 (placeOf e) q h) = w (ix3 e q h) := by
  rw [Layout.block_apply]
  refine congrArg w (funext fun a => Fin.ext ?_)
  rw [Layout.Tiles.idx_val]
  match a with
  | ⟨0, _⟩ =>
    refine (if_pos (show (0 : ℕ) = 0 from rfl)).trans ?_
    show e.val / 4 * 4 + e.val % 4 = e.val
    omega
  | ⟨1, _⟩ => exact (if_neg (show ¬ (1 : ℕ) = 0 by decide)).trans rfl
  | ⟨2, _⟩ => exact (if_neg (show ¬ (2 : ℕ) = 0 by decide)).trans rfl

variable (E : Fin 1024 → Fin 128)

/-- The kernel's result, entry by entry, in terms of the whole arrays. -/
theorem out_moe (m : (ℓ : Loc nD τ sig) → Buf (Elt Ideal) ℓ) (ρ : Dev nD → PrngReg) (x : FVec Ideal S1024x512 .bf16) (e : IVec S1024x1 32)
    (w : FVec Ideal Cert.ReferenceIdeal.S128x512x1024 .bf16) (he : Experts E e)
    (hx : ∀ c : Dev nD, m ((c : Thread nD τ).loc main_arg0) = x) (hr : ∀ c : Dev nD, m ((c : Thread nD τ).loc main_arg2) = e)
    (hw : ∀ c : Dev nD, m ((c : Thread nD τ).loc main_arg3) = Layout.block ⟨3, ![4, 512, 1024]⟩ ⟨3, ![128, 512, 1024]⟩ 0 32 c w)
    (c : Dev nD) (i h : Fin 1024) : (outV m ρ c (ix2 i h) : EReal) = Ref.moe E x w i h := by
  rw [out_eq E m ρ c (fun d => by rw [es_eq, hr]; exact he) i h]
  unfold Ref.moe
  have hX : ∀ d, xV m ρ d = x := fun d => (xs_eq m ρ d).trans (hx d)
  have hW : ∀ d, wV m ρ d = Layout.block ⟨3, ![4, 512, 1024]⟩ ⟨3, ![128, 512, 1024]⟩ 0 32 d w := fun d => (ws_eq m ρ d).trans (hw d)
  rw [hX, hW]
  refine if_congr Iff.rfl (Finset.sum_congr rfl fun q _ => ?_) rfl
  rw [block_at]

/-- The flattened indices name the same experts. -/
theorem experts_flat (m : (ℓ : Loc Cert.ReferenceIdeal.nD Cert.ReferenceIdeal.τ Cert.ReferenceIdeal.sig) → Buf (Elt Ideal) ℓ)
    (c : Dev Cert.ReferenceIdeal.nD) (e : IVec S1024x1 32) (hr : m ((c : Thread Cert.ReferenceIdeal.nD Cert.ReferenceIdeal.τ).loc Cert.ReferenceIdeal.main_arg2) = e)
    (he : Experts E e) : Ref.IsExperts E (Ref.experts m c) := by
  intro j
  rw [← he j]
  unfold Ref.experts
  rw [hr]
  pointwise

end Cert.MoE

end
-- ==== Proof.lean ====
/-
The certificate: the frames of the kernel and of the reference, and the agreement of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range_KernelIdeal
public import proofs.«01_k».proof.Proof.Gen.Pre_in_range_ReferenceIdeal
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The two programs have the same text: one body, -/
theorem defs₀_same : Cert.Kernel.defs₀ (F := Bits) = Cert.KernelIdeal.defs₀ (F := Bits) := by
  unfold Cert.Kernel.defs₀ Cert.KernelIdeal.defs₀
  refine congrArg Defs.onTc ?_
  funext l a
  obtain rfl : l = (0 : Fin 1) := Subsingleton.elim (α := Fin 1) _ _
  rfl

/-- and one table of bodies. -/
theorem defs_same : Cert.Kernel.defs (F := Bits) = Cert.KernelIdeal.defs (F := Bits) :=
  congrArg (Pipeline.defs (Cert.KernelIdeal.pcfgs (F := Bits))) defs₀_same

/-- The kernel, at the machine's floats, leaves its arguments unchanged and its semaphores at zero. -/
theorem frame_kernel : Cert.quiescent_Kernel := by
  intro m ρ _
  rw [defs_same]
  exact (θ_run Cert.KernelIdeal.defs _ _).mono (fun _ h => ⟨fun c => (h.1 c).2, h.2⟩) (Cert.MoE.run_all (F := Bits) m ρ)

/-- The same of its idealization. -/
theorem frame_ideal : Cert.quiescent_KernelIdeal := fun m ρ _ =>
  (θ_run Cert.KernelIdeal.defs _ _).mono (fun _ h => ⟨fun c => (h.1 c).2, h.2⟩) (Cert.MoE.run_all (F := Ideal) m ρ)

/-- The same where the routing indices are in range. -/
theorem frame_ideal_pre : Cert.quiescent_KernelIdeal_pre_in_range_KernelIdeal := fun m ρ _ =>
  (θ_run Cert.KernelIdeal.defs _ _).mono (fun _ h => ⟨fun c => (h.1 c).2, h.2⟩) (Cert.MoE.run_all (F := Ideal) m ρ)

/-- The reference leaves its arguments unchanged. -/
theorem frame_reference : Cert.quiescent_ReferenceIdeal := fun m ρ _ => Cert.MoE.Ref.run_args m ρ

/-- The same where the routing indices are in range. -/
theorem frame_reference_pre : Cert.quiescent_ReferenceIdeal_pre_in_range_ReferenceIdeal := fun m ρ _ => Cert.MoE.Ref.run_args m ρ

/-- The result both programs leave. -/
def moeBuf (E : Fin 1024 → Fin 128) (x : FVec Ideal Cert.ReferenceIdeal.S1024x512 .bf16) (w : FVec Ideal Cert.ReferenceIdeal.S128x512x1024 .bf16) :
    FVec Ideal Cert.ReferenceIdeal.S1024x1024 .f32 := fun i => Cert.MoE.Ref.moe E x w (i 0) (i 1)

/-- Two arrays of the result's shape that agree at every pair of coordinates are one. -/
theorem ext_result (f g : FVec Ideal Cert.ReferenceIdeal.S1024x1024 .f32) (h : ∀ i j : Fin 1024, f (ix2 i j) = g (ix2 i j)) : f = g := by
  funext i
  have hi : i = ix2 (i 0) (i 1) := by
    funext a
    match a with
    | ⟨0, _⟩ => rfl
    | ⟨1, _⟩ => rfl
  rw [hi]
  exact h _ _

/-- Where the routing indices are in range, every device ends with the reference's result. -/
theorem agree : Cert.algebraic_KernelIdeal_ReferenceIdeal_pre_in_range_KernelIdeal := by
  intro m ρ m' ρ' hpre hin
  obtain ⟨E, hE⟩ := Cert.MoE.experts_of_pre _ _ _ _ (hpre 0)
  rw [(hin 0).2.2.1] at hE
  refine ⟨moeBuf E (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c).1.trans (ext_result _ _ fun i j => ?_), (h.1 c).2⟩)
      (Cert.MoE.run_all (F := Ideal) m ρ)
    exact Cert.MoE.out_moe E m ρ _ _ _ hE (fun c => (hin c).1) (fun c => (hin c).2.2.1) (fun c => (hin c).2.2.2) c i j
  · have hF : ∀ c, Cert.MoE.Ref.IsExperts E (Cert.MoE.Ref.experts m' c) := fun c => by
      obtain rfl : c = 0 := Subsingleton.elim (α := Fin 1) _ _
      exact Cert.MoE.experts_flat E m' 0 _ rfl hE
    refine (θ_run Cert.ReferenceIdeal.defs _ _).mono (fun r h => ⟨(h 0).1.trans (ext_result _ _ fun i j => ?_), (h 0).2⟩)
      (Cert.MoE.Ref.run_vals m' ρ' E hF)
    exact Cert.MoE.Ref.result_eq E _ _ _ (hF 0) i j

/-- The certificate's claim. -/
theorem claim : Cert.Claim :=
  ⟨Cert.Kernel.Gen.facts, Cert.KernelIdeal.Gen.facts, Cert.ReferenceIdeal.Gen.facts, Cert.Pre_in_range_KernelIdeal.Gen.facts,
    Cert.Pre_in_range_ReferenceIdeal.Gen.facts, frame_kernel, frame_ideal, frame_ideal_pre, frame_reference, frame_reference_pre, trivial, agree⟩

end Cert.Proof

end
